-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_weights [hPre_uniform_weights : Cert.Pre_uniform_weights.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_weights [hPre_uniform_weights : Cert.Pre_uniform_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_uniform_weights [hKernelIdeal : Cert.KernelIdeal.Facts] [hPre_uniform_weights : Cert.Pre_uniform_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_weights m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_uniform_weights [hReferenceIdeal : Cert.ReferenceIdeal.Facts] [hPre_uniform_weights : Cert.Pre_uniform_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_uniform_weights [hKernelIdeal : Cert.KernelIdeal.Facts] [hReferenceIdeal : Cert.ReferenceIdeal.Facts] [hPre_uniform_weights : Cert.Pre_uniform_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_uniform_weights : Cert.Pre_uniform_weights.Facts),
    quiescent_Kernel (hKernel := hKernel)
    ∧ quiescent_KernelIdeal (hKernelIdeal := hKernelIdeal)
    ∧ quiescent_KernelIdeal_pre_uniform_weights (hKernelIdeal := hKernelIdeal) (hPre_uniform_weights := hPre_uniform_weights)
    ∧ quiescent_ReferenceIdeal (hReferenceIdeal := hReferenceIdeal)
    ∧ quiescent_ReferenceIdeal_pre_uniform_weights (hReferenceIdeal := hReferenceIdeal) (hPre_uniform_weights := hPre_uniform_weights)
    ∧ preserves_Kernel_KernelIdeal
    ∧ algebraic_KernelIdeal_ReferenceIdeal_pre_uniform_weights (hKernelIdeal := hKernelIdeal) (hReferenceIdeal := hReferenceIdeal) (hPre_uniform_weights := hPre_uniform_weights)
-- ==== Pre_uniform_weights.lean ====
abbrev S262144x128 : Shape := ⟨2, ![262144, 128]⟩
abbrev S128 : Shape := ⟨1, ![128]⟩
abbrev S1 : Shape := ⟨1, ![1]⟩
abbrev S_ : Shape := ⟨0, ![]⟩

class Facts : Prop where
  slices_S128_S1_0 : S128.Slices ![0] S1
  shapeCasts_S1_S_ : S1.ShapeCasts S_
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S262144x128 .f32) (main_arg1 : FVec F S128 .f32) : IVec S_ 1 :=
  let main_v0 : FVec F S1 .f32 := (extractStridedSlice S1 ![0] · slices_S128_S1_0) main_arg1
  let main_v1 : FVec F S_ .f32 := shapeCast S_ main_v0 shapeCasts_S1_S_
  let main_v2 : FVec F S128 .f32 := broadcastInDim S128 ![] bcast_S_S128 main_v1
  let main_v3 : IVec S128 1 := cmpf .oeq main_arg1 main_v2
  let main_cst : FVec F S_ .f32 := constant S_ .f32 0x00000000#32
  let main_v4 : FVec F S128 .f32 := broadcastInDim S128 ![] bcast_S_S128 main_cst
  let main_v5 : IVec S128 1 := cmpf .oge main_arg1 main_v4
  let main_v6 : IVec S128 1 := andi main_v3 main_v5
  let main_cst_0 : FVec F S_ .f32 := constant S_ .f32 0x7F800000#32
  let main_v7 : FVec F S128 .f32 := broadcastInDim S128 ![] bcast_S_S128 main_cst_0
  let main_v8 : IVec S128 1 := cmpf .olt main_arg1 main_v7
  let main_v9 : IVec S128 1 := andi main_v6 main_v8
  let main_c : IVec S_ 1 := constantI S_ 1 1#1
  let main_v10 : IVec S_ 1 := (fun x v => Host.reduce IntOp.andi x v reducesTo_S128_S_d0 h_S_) main_v9 main_c
  main_v10
-- ==== Kernel.lean ====
abbrev S262144x128 : Shape := ⟨2, ![262144, 128]⟩
abbrev S128 : Shape := ⟨1, ![128]⟩
abbrev S33554432 : Shape := ⟨1, ![33554432]⟩
abbrev S32x16 : Shape := ⟨2, ![32, 16]⟩
abbrev S32768 : Shape := ⟨1, ![32768]⟩
abbrev S16 : Shape := ⟨1, ![16]⟩
abbrev S_ : Shape := ⟨0, ![]⟩
abbrev S1x16 : Shape := ⟨2, ![1, 16]⟩
abbrev S1x128 : Shape := ⟨2, ![1, 128]⟩
abbrev S8x128 : Shape := ⟨2, ![8, 128]⟩
abbrev S8192x128 : Shape := ⟨2, ![8192, 128]⟩
abbrev S1024x8x128 : Shape := ⟨3, ![1024, 8, 128]⟩
abbrev S1x1 : Shape := ⟨2, ![1, 1]⟩
abbrev S1x32x16 : Shape := ⟨3, ![1, 32, 16]⟩
abbrev S1 : Shape := ⟨1, ![1]⟩
abbrev S1x1x1 : Shape := ⟨3, ![1, 1, 1]⟩
abbrev S1x8x128 : Shape := ⟨3, ![1, 8, 128]⟩

abbrev nBuf : Table → Nat
  | .hbm => 8
  | .local .tc .vmem => 7
  | .local .scVector .vmem => 4
  | _ => 0

abbrev bufTy : (tb : Table) → Fin (nBuf tb) → BufTy
  | .hbm, ⟨0, _⟩ => ⟨S262144x128, .f32⟩
  | .hbm, ⟨1, _⟩ => ⟨S128, .f32⟩
  | .hbm, ⟨2, _⟩ => ⟨S33554432, .f32⟩
  | .hbm, ⟨3, _⟩ => ⟨S32x16, .f32⟩
  | .hbm, ⟨4, _⟩ => ⟨S1x128, .f32⟩
  | .hbm, ⟨5, _⟩ => ⟨S8x128, .f32⟩
  | .hbm, ⟨6, _⟩ => ⟨S1x1, .f32⟩
  | .hbm, ⟨7, _⟩ => ⟨S_, .f32⟩
  | .local .tc .vmem, ⟨0, _⟩ => ⟨S8192x128, .f32⟩
  | .local .tc .vmem, ⟨1, _⟩ => ⟨S8192x128, .f32⟩
  | .local .tc .vmem, ⟨2, _⟩ => ⟨S1x128, .f32⟩
  | .local .tc .vmem, ⟨3, _⟩ => ⟨S8x128, .f32⟩
  | .local .tc .vmem, ⟨4, _⟩ => ⟨S32x16, .f32⟩
  | .local .tc .vmem, ⟨5, _⟩ => ⟨S8x128, .f32⟩
  | .local .tc .vmem, ⟨6, _⟩ => ⟨S1x1, .f32⟩
  | .local .scVector .vmem, ⟨0, _⟩ => ⟨S32768, .f32⟩
  | .local .scVector .vmem, ⟨1, _⟩ => ⟨S32768, .f32⟩
  | .local .scVector .vmem, ⟨2, _⟩ => ⟨S128, .f32⟩
  | .local .scVector .vmem, ⟨3, _⟩ => ⟨S16, .f32⟩
  | _, _ => ⟨S262144x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem2_0 : DmaSem sig := 7
abbrev cc2_sem0_0 : DmaSem sig := 8
abbrev cc2_sem1_0 : DmaSem sig := 9
abbrev cc2_sem2_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c557056_i32 : BitVec 32 := 557056#32
  let v2 : BitVec 32 := Scalar.muli v1 c557056_i32
  ![v2.toNat]
def k0_off2 (i : grid0.Coords) (c32768_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c557056_i32 : BitVec 32 := 557056#32
  let v2 : BitVec 32 := Scalar.muli v1 c557056_i32
  let v13 : BitVec 32 := Scalar.addi v2 c32768_i32
  ![v13.toNat]
@[reducible] def k0_t1_loop : Scf.Loop 32 :=
  let c0_i32 : BitVec 32 := 0#32
  let c64_i32 : BitVec 32 := 64#32
  let v18 : BitVec 32 := Scalar.addi c0_i32 c64_i32
  let c1_i32 : BitVec 32 := 1#32
  ⟨c0_i32, v18, c1_i32⟩
def k0_off3 (k0_t1 : Fin k0_t1_loop.trips) (c0_i32_74 : BitVec 32) (c0_i32_75 : BitVec 32) : Fin 1 → Nat :=
  let c0_i32 : BitVec 32 := 0#32
  let c1_i32 : BitVec 32 := 1#32
  let arg11 : BitVec 32 := Scf.iv c0_i32 c1_i32 k0_t1
  let c512_i32 : BitVec 32 := 512#32
  let v165 : BitVec 32 := Scalar.muli arg11 c512_i32
  let v166 : BitVec 32 := Scalar.addi v165 c0_i32_74
  let v167 : BitVec 32 := Scalar.addi v166 c0_i32_75
  let v168 : Index := Scalar.indexCast v167
  ![v168.toNat]
@[reducible] def k0_t2_loop : Scf.Loop 32 :=
  let c0_i32_8 : BitVec 32 := 0#32
  let c64_i32_9 : BitVec 32 := 64#32
  let v25 : BitVec 32 := Scalar.addi c0_i32_8 c64_i32_9
  let c1_i32_10 : BitVec 32 := 1#32
  ⟨c0_i32_8, v25, c1_i32_10⟩
def k0_off4 (k0_t2 : Fin k0_t2_loop.trips) (c0_i32_74 : BitVec 32) (c0_i32_75 : BitVec 32) : Fin 1 → Nat :=
  let c0_i32_8 : BitVec 32 := 0#32
  let c1_i32_10 : BitVec 32 := 1#32
  let arg11 : BitVec 32 := Scf.iv c0_i32_8 c1_i32_10 k0_t2
  let c512_i32 : BitVec 32 := 512#32
  let v165 : BitVec 32 := Scalar.muli arg11 c512_i32
  let v166 : BitVec 32 := Scalar.addi v165 c0_i32_74
  let v167 : BitVec 32 := Scalar.addi v166 c0_i32_75
  let v168 : Index := Scalar.indexCast v167
  ![v168.toNat]
@[reducible] def k0_t3_loop : Scf.Loop 32 :=
  let c0_i32_12 : BitVec 32 := 0#32
  let c64_i32_13 : BitVec 32 := 64#32
  let v32 : BitVec 32 := Scalar.addi c0_i32_12 c64_i32_13
  let c1_i32_14 : BitVec 32 := 1#32
  ⟨c0_i32_12, v32, c1_i32_14⟩
def k0_off5 (k0_t3 : Fin k0_t3_loop.trips) (c0_i32_74 : BitVec 32) (c0_i32_75 : BitVec 32) : Fin 1 → Nat :=
  let c0_i32_12 : BitVec 32 := 0#32
  let c1_i32_14 : BitVec 32 := 1#32
  let arg11 : BitVec 32 := Scf.iv c0_i32_12 c1_i32_14 k0_t3
  let c512_i32 : BitVec 32 := 512#32
  let v165 : BitVec 32 := Scalar.muli arg11 c512_i32
  let v166 : BitVec 32 := Scalar.addi v165 c0_i32_74
  let v167 : BitVec 32 := Scalar.addi v166 c0_i32_75
  let v168 : Index := Scalar.indexCast v167
  ![v168.toNat]
@[reducible] def k0_t4_loop : Scf.Loop 32 :=
  let c0_i32_16 : BitVec 32 := 0#32
  let c64_i32_17 : BitVec 32 := 64#32
  let v39 : BitVec 32 := Scalar.addi c0_i32_16 c64_i32_17
  let c1_i32_18 : BitVec 32 := 1#32
  ⟨c0_i32_16, v39, c1_i32_18⟩
def k0_off6 (k0_t4 : Fin k0_t4_loop.trips) (c0_i32_74 : BitVec 32) (c0_i32_75 : BitVec 32) : Fin 1 → Nat :=
  let c0_i32_16 : BitVec 32 := 0#32
  let c1_i32_18 : BitVec 32 := 1#32
  let arg11 : BitVec 32 := Scf.iv c0_i32_16 c1_i32_18 k0_t4
  let c512_i32 : BitVec 32 := 512#32
  let v165 : BitVec 32 := Scalar.muli arg11 c512_i32
  let v166 : BitVec 32 := Scalar.addi v165 c0_i32_74
  let v167 : BitVec 32 := Scalar.addi v166 c0_i32_75
  let v168 : Index := Scalar.indexCast v167
  ![v168.toNat]
@[reducible] def k0_t5_loop : Scf.Loop 32 :=
  let c0_i32_20 : BitVec 32 := 0#32
  let c64_i32_21 : BitVec 32 := 64#32
  let v46 : BitVec 32 := Scalar.addi c0_i32_20 c64_i32_21
  let c1_i32_22 : BitVec 32 := 1#32
  ⟨c0_i32_20, v46, c1_i32_22⟩
def k0_off7 (k0_t5 : Fin k0_t5_loop.trips) (c0_i32_74 : BitVec 32) (c0_i32_75 : BitVec 32) : Fin 1 → Nat :=
  let c0_i32_20 : BitVec 32 := 0#32
  let c1_i32_22 : BitVec 32 := 1#32
  let arg11 : BitVec 32 := Scf.iv c0_i32_20 c1_i32_22 k0_t5
  let c512_i32 : BitVec 32 := 512#32
  let v165 : BitVec 32 := Scalar.muli arg11 c512_i32
  let v166 : BitVec 32 := Scalar.addi v165 c0_i32_74
  let v167 : BitVec 32 := Scalar.addi v166 c0_i32_75
  let v168 : Index := Scalar.indexCast v167
  ![v168.toNat]
@[reducible] def k0_t6_loop : Scf.Loop 32 :=
  let c0_i32_24 : BitVec 32 := 0#32
  let c64_i32_25 : BitVec 32 := 64#32
  let v53 : BitVec 32 := Scalar.addi c0_i32_24 c64_i32_25
  let c1_i32_26 : BitVec 32 := 1#32
  ⟨c0_i32_24, v53, c1_i32_26⟩
def k0_off8 (k0_t6 : Fin k0_t6_loop.trips) (c0_i32_74 : BitVec 32) (c0_i32_75 : BitVec 32) : Fin 1 → Nat :=
  let c0_i32_24 : BitVec 32 := 0#32
  let c1_i32_26 : BitVec 32 := 1#32
  let arg11 : BitVec 32 := Scf.iv c0_i32_24 c1_i32_26 k0_t6
  let c512_i32 : BitVec 32 := 512#32
  let v165 : BitVec 32 := Scalar.muli arg11 c512_i32
  let v166 : BitVec 32 := Scalar.addi v165 c0_i32_74
  let v167 : BitVec 32 := Scalar.addi v166 c0_i32_75
  let v168 : Index := Scalar.indexCast v167
  ![v168.toNat]
@[reducible] def k0_t7_loop : Scf.Loop 32 :=
  let c0_i32_28 : BitVec 32 := 0#32
  let c64_i32_29 : BitVec 32 := 64#32
  let v60 : BitVec 32 := Scalar.addi c0_i32_28 c64_i32_29
  let c1_i32_30 : BitVec 32 := 1#32
  ⟨c0_i32_28, v60, c1_i32_30⟩
def k0_off9 (k0_t7 : Fin k0_t7_loop.trips) (c0_i32_74 : BitVec 32) (c0_i32_75 : BitVec 32) : Fin 1 → Nat :=
  let c0_i32_28 : BitVec 32 := 0#32
  let c1_i32_30 : BitVec 32 := 1#32
  let arg11 : BitVec 32 := Scf.iv c0_i32_28 c1_i32_30 k0_t7
  let c512_i32 : BitVec 32 := 512#32
  let v165 : BitVec 32 := Scalar.muli arg11 c512_i32
  let v166 : BitVec 32 := Scalar.addi v165 c0_i32_74
  let v167 : BitVec 32 := Scalar.addi v166 c0_i32_75
  let v168 : Index := Scalar.indexCast v167
  ![v168.toNat]
@[reducible] def k0_t8_loop : Scf.Loop 32 :=
  let c0_i32_32 : BitVec 32 := 0#32
  let c64_i32_33 : BitVec 32 := 64#32
  let v67 : BitVec 32 := Scalar.addi c0_i32_32 c64_i32_33
  let c1_i32_34 : BitVec 32 := 1#32
  ⟨c0_i32_32, v67, c1_i32_34⟩
def k0_off10 (k0_t8 : Fin k0_t8_loop.trips) (c0_i32_74 : BitVec 32) (c0_i32_75 : BitVec 32) : Fin 1 → Nat :=
  let c0_i32_32 : BitVec 32 := 0#32
  let c1_i32_34 : BitVec 32 := 1#32
  let arg11 : BitVec 32 := Scf.iv c0_i32_32 c1_i32_34 k0_t8
  let c512_i32 : BitVec 32 := 512#32
  let v165 : BitVec 32 := Scalar.muli arg11 c512_i32
  let v166 : BitVec 32 := Scalar.addi v165 c0_i32_74
  let v167 : BitVec 32 := Scalar.addi v166 c0_i32_75
  let v168 : Index := Scalar.indexCast v167
  ![v168.toNat]
@[reducible] def k0_t9_loop : Scf.Loop 32 :=
  let c0_i32_36 : BitVec 32 := 0#32
  let c64_i32_37 : BitVec 32 := 64#32
  let v74 : BitVec 32 := Scalar.addi c0_i32_36 c64_i32_37
  let c1_i32_38 : BitVec 32 := 1#32
  ⟨c0_i32_36, v74, c1_i32_38⟩
def k0_off11 (k0_t9 : Fin k0_t9_loop.trips) (c0_i32_74 : BitVec 32) (c0_i32_75 : BitVec 32) : Fin 1 → Nat :=
  let c0_i32_36 : BitVec 32 := 0#32
  let c1_i32_38 : BitVec 32 := 1#32
  let arg11 : BitVec 32 := Scf.iv c0_i32_36 c1_i32_38 k0_t9
  let c512_i32 : BitVec 32 := 512#32
  let v165 : BitVec 32 := Scalar.muli arg11 c512_i32
  let v166 : BitVec 32 := Scalar.addi v165 c0_i32_74
  let v167 : BitVec 32 := Scalar.addi v166 c0_i32_75
  let v168 : Index := Scalar.indexCast v167
  ![v168.toNat]
@[reducible] def k0_t10_loop : Scf.Loop 32 :=
  let c0_i32_40 : BitVec 32 := 0#32
  let c64_i32_41 : BitVec 32 := 64#32
  let v81 : BitVec 32 := Scalar.addi c0_i32_40 c64_i32_41
  let c1_i32_42 : BitVec 32 := 1#32
  ⟨c0_i32_40, v81, c1_i32_42⟩
def k0_off12 (k0_t10 : Fin k0_t10_loop.trips) (c0_i32_74 : BitVec 32) (c0_i32_75 : BitVec 32) : Fin 1 → Nat :=
  let c0_i32_40 : BitVec 32 := 0#32
  let c1_i32_42 : BitVec 32 := 1#32
  let arg11 : BitVec 32 := Scf.iv c0_i32_40 c1_i32_42 k0_t10
  let c512_i32 : BitVec 32 := 512#32
  let v165 : BitVec 32 := Scalar.muli arg11 c512_i32
  let v166 : BitVec 32 := Scalar.addi v165 c0_i32_74
  let v167 : BitVec 32 := Scalar.addi v166 c0_i32_75
  let v168 : Index := Scalar.indexCast v167
  ![v168.toNat]
@[reducible] def k0_t11_loop : Scf.Loop 32 :=
  let c0_i32_44 : BitVec 32 := 0#32
  let c64_i32_45 : BitVec 32 := 64#32
  let v88 : BitVec 32 := Scalar.addi c0_i32_44 c64_i32_45
  let c1_i32_46 : BitVec 32 := 1#32
  ⟨c0_i32_44, v88, c1_i32_46⟩
def k0_off13 (k0_t11 : Fin k0_t11_loop.trips) (c0_i32_74 : BitVec 32) (c0_i32_75 : BitVec 32) : Fin 1 → Nat :=
  let c0_i32_44 : BitVec 32 := 0#32
  let c1_i32_46 : BitVec 32 := 1#32
  let arg11 : BitVec 32 := Scf.iv c0_i32_44 c1_i32_46 k0_t11
  let c512_i32 : BitVec 32 := 512#32
  let v165 : BitVec 32 := Scalar.muli arg11 c512_i32
  let v166 : BitVec 32 := Scalar.addi v165 c0_i32_74
  let v167 : BitVec 32 := Scalar.addi v166 c0_i32_75
  let v168 : Index := Scalar.indexCast v167
  ![v168.toNat]
@[reducible] def k0_t12_loop : Scf.Loop 32 :=
  let c0_i32_48 : BitVec 32 := 0#32
  let c64_i32_49 : BitVec 32 := 64#32
  let v95 : BitVec 32 := Scalar.addi c0_i32_48 c64_i32_49
  let c1_i32_50 : BitVec 32 := 1#32
  ⟨c0_i32_48, v95, c1_i32_50⟩
def k0_off14 (k0_t12 : Fin k0_t12_loop.trips) (c0_i32_74 : BitVec 32) (c0_i32_75 : BitVec 32) : Fin 1 → Nat :=
  let c0_i32_48 : BitVec 32 := 0#32
  let c1_i32_50 : BitVec 32 := 1#32
  let arg11 : BitVec 32 := Scf.iv c0_i32_48 c1_i32_50 k0_t12
  let c512_i32 : BitVec 32 := 512#32
  let v165 : BitVec 32 := Scalar.muli arg11 c512_i32
  let v166 : BitVec 32 := Scalar.addi v165 c0_i32_74
  let v167 : BitVec 32 := Scalar.addi v166 c0_i32_75
  let v168 : Index := Scalar.indexCast v167
  ![v168.toNat]
@[reducible] def k0_t13_loop : Scf.Loop 32 :=
  let c0_i32_52 : BitVec 32 := 0#32
  let c64_i32_53 : BitVec 32 := 64#32
  let v102 : BitVec 32 := Scalar.addi c0_i32_52 c64_i32_53
  let c1_i32_54 : BitVec 32 := 1#32
  ⟨c0_i32_52, v102, c1_i32_54⟩
def k0_off15 (k0_t13 : Fin k0_t13_loop.trips) (c0_i32_74 : BitVec 32) (c0_i32_75 : BitVec 32) : Fin 1 → Nat :=
  let c0_i32_52 : BitVec 32 := 0#32
  let c1_i32_54 : BitVec 32 := 1#32
  let arg11 : BitVec 32 := Scf.iv c0_i32_52 c1_i32_54 k0_t13
  let c512_i32 : BitVec 32 := 512#32
  let v165 : BitVec 32 := Scalar.muli arg11 c512_i32
  let v166 : BitVec 32 := Scalar.addi v165 c0_i32_74
  let v167 : BitVec 32 := Scalar.addi v166 c0_i32_75
  let v168 : Index := Scalar.indexCast v167
  ![v168.toNat]
@[reducible] def k0_t14_loop : Scf.Loop 32 :=
  let c0_i32_56 : BitVec 32 := 0#32
  let c64_i32_57 : BitVec 32 := 64#32
  let v109 : BitVec 32 := Scalar.addi c0_i32_56 c64_i32_57
  let c1_i32_58 : BitVec 32 := 1#32
  ⟨c0_i32_56, v109, c1_i32_58⟩
def k0_off16 (k0_t14 : Fin k0_t14_loop.trips) (c0_i32_74 : BitVec 32) (c0_i32_75 : BitVec 32) : Fin 1 → Nat :=
  let c0_i32_56 : BitVec 32 := 0#32
  let c1_i32_58 : BitVec 32 := 1#32
  let arg11 : BitVec 32 := Scf.iv c0_i32_56 c1_i32_58 k0_t14
  let c512_i32 : BitVec 32 := 512#32
  let v165 : BitVec 32 := Scalar.muli arg11 c512_i32
  let v166 : BitVec 32 := Scalar.addi v165 c0_i32_74
  let v167 : BitVec 32 := Scalar.addi v166 c0_i32_75
  let v168 : Index := Scalar.indexCast v167
  ![v168.toNat]
@[reducible] def k0_t15_loop : Scf.Loop 32 :=
  let c0_i32_60 : BitVec 32 := 0#32
  let c64_i32_61 : BitVec 32 := 64#32
  let v116 : BitVec 32 := Scalar.addi c0_i32_60 c64_i32_61
  let c1_i32_62 : BitVec 32 := 1#32
  ⟨c0_i32_60, v116, c1_i32_62⟩
def k0_off17 (k0_t15 : Fin k0_t15_loop.trips) (c0_i32_74 : BitVec 32) (c0_i32_75 : BitVec 32) : Fin 1 → Nat :=
  let c0_i32_60 : BitVec 32 := 0#32
  let c1_i32_62 : BitVec 32 := 1#32
  let arg11 : BitVec 32 := Scf.iv c0_i32_60 c1_i32_62 k0_t15
  let c512_i32 : BitVec 32 := 512#32
  let v165 : BitVec 32 := Scalar.muli arg11 c512_i32
  let v166 : BitVec 32 := Scalar.addi v165 c0_i32_74
  let v167 : BitVec 32 := Scalar.addi v166 c0_i32_75
  let v168 : Index := Scalar.indexCast v167
  ![v168.toNat]
@[reducible] def k0_t16_loop : Scf.Loop 32 :=
  let c0_i32_64 : BitVec 32 := 0#32
  let c64_i32_65 : BitVec 32 := 64#32
  let v123 : BitVec 32 := Scalar.addi c0_i32_64 c64_i32_65
  let c1_i32_66 : BitVec 32 := 1#32
  ⟨c0_i32_64, v123, c1_i32_66⟩
def k0_off18 (k0_t16 : Fin k0_t16_loop.trips) (c0_i32_74 : BitVec 32) (c0_i32_75 : BitVec 32) : Fin 1 → Nat :=
  let c0_i32_64 : BitVec 32 := 0#32
  let c1_i32_66 : BitVec 32 := 1#32
  let arg11 : BitVec 32 := Scf.iv c0_i32_64 c1_i32_66 k0_t16
  let c512_i32 : BitVec 32 := 512#32
  let v165 : BitVec 32 := Scalar.muli arg11 c512_i32
  let v166 : BitVec 32 := Scalar.addi v165 c0_i32_74
  let v167 : BitVec 32 := Scalar.addi v166 c0_i32_75
  let v168 : Index := Scalar.indexCast v167
  ![v168.toNat]
@[reducible] def k0_t17_loop : Scf.Loop 32 :=
  let c0_i32_68 : BitVec 32 := 0#32
  let c64_i32_69 : BitVec 32 := 64#32
  let v127 : BitVec 32 := Scalar.addi c0_i32_68 c64_i32_69
  let c1_i32_70 : BitVec 32 := 1#32
  ⟨c0_i32_68, v127, c1_i32_70⟩
def k0_off19 (k0_t17 : Fin k0_t17_loop.trips) (c0_i32_74 : BitVec 32) (c0_i32_75 : BitVec 32) : Fin 1 → Nat :=
  let c0_i32_68 : BitVec 32 := 0#32
  let c1_i32_70 : BitVec 32 := 1#32
  let arg11 : BitVec 32 := Scf.iv c0_i32_68 c1_i32_70 k0_t17
  let c512_i32 : BitVec 32 := 512#32
  let v165 : BitVec 32 := Scalar.muli arg11 c512_i32
  let v166 : BitVec 32 := Scalar.addi v165 c0_i32_74
  let v167 : BitVec 32 := Scalar.addi v166 c0_i32_75
  let v168 : Index := Scalar.indexCast v167
  ![v168.toNat]
def k0_off20 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_74_r1 : BitVec 32 := 0#32
  ![v1.toNat, 0]
abbrev grid1 : Pipeline.Grid := ⟨1, ![15], ![false]⟩

def cc1_transform_0 (i : grid1.Coords) : Fin 2 → Nat :=
  let arg0 : BitVec 32 := BitVec.ofNat 32 (i 0).val
  let c17_i32 : BitVec 32 := 17#32
  let v0 : BitVec 32 := Scalar.addi arg0 c17_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := .none

abbrev stage2_0 : Fin 1 → Memref sig .tc .vmem S32x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S262144x128 : Shape := ⟨2, ![262144, 128]⟩
abbrev S128 : Shape := ⟨1, ![128]⟩
abbrev S1x128 : Shape := ⟨2, ![1, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S128, .f32⟩
  | .hbm, ⟨2, _⟩ => ⟨S262144x128, .f32⟩
  | .hbm, ⟨3, _⟩ => ⟨S262144x128, .f32⟩
  | .hbm, ⟨4, _⟩ => ⟨S1x128, .f32⟩
  | .hbm, ⟨5, _⟩ => ⟨S262144x128, .f32⟩
  | .hbm, ⟨6, _⟩ => ⟨S262144x128, .f32⟩
  | .hbm, ⟨7, _⟩ => ⟨S_, .f32⟩
  | .hbm, ⟨8, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Lanes.lean ====
/-
  What a vector subcore computes, as plain functions of its operands over any floats.

  A chunk is 32768 consecutive words of the flattened `x`: 64 trips of four rows of 128. Eight accumulators of sixteen
  lanes each run along a row; accumulator `k` adds the words `16 * k + lane` of every row in turn.
-/
module

public import proofs.«01_k».proof.Proof.Gen.KernelIdeal.Skeleton
public import Idealize.ShloMosaic.Lib.Pipeline.Value

@[expose] public section

noncomputable section

namespace Cert.Proof.Lanes

open Cert.KernelIdeal Cert.KernelIdeal.Gen
open Idealize.ShloMosaic Idealize.SL.Sem

/-- The index `k` of a vector of length `n`, reduced modulo `n`. -/
def at1 (n : ℕ) [NeZero n] (k : ℕ) : (⟨1, ![n]⟩ : Shape).Idx :=
  fun | 0 => Fin.ofNat n k

theorem at1_val (n : ℕ) [NeZero n] {k : ℕ} (h : k < n) : (at1 n k 0).val = k := Nat.mod_eq_of_lt h

/-- An index of a vector is `at1` of its number. -/
theorem eq_at1 (n : ℕ) [NeZero n] (j : (⟨1, ![n]⟩ : Shape).Idx) : j = at1 n (j 0).val := by
  funext a
  match a with
  | 0 => exact Fin.ext (Nat.mod_eq_of_lt (j 0).isLt).symm

/-- Sixteen consecutive words of a vector, from word `o` on. -/
def lane {α : Type} {n : ℕ} [NeZero n] (X : (⟨1, ![n]⟩ : Shape).Idx → α) (o : ℕ) : S16.Idx → α :=
  fun j => X (at1 n (o + (j 0).val))

/-- A read of sixteen consecutive words is the lane vector at its offset. -/
theorem readAt_lane {F : FTy → Type} {n : ℕ} [NeZero n] {κ : Kind} {sp : Space} (v : View sig κ sp ⟨1, ![n]⟩ .f32) (f : v.ty.Contents (Elt F))
    (off : Fin 1 → ℕ) (inb : ∀ a, off a + S16.size a ≤ (⟨1, ![n]⟩ : Shape).size a) {o : ℕ} (ho : off = ![o]) :
    v.readAt (Elt F) (Rect.unit (s := ⟨1, ![n]⟩) off S16.size inb).toLoadRect f = lane (v.read (Elt F) f) o := by
  subst ho
  funext j
  refine (View.readAt_apply _ f j).trans (congrArg (v.read (Elt F) f) ?_)
  funext a
  match a with
  | 0 =>
    apply Fin.ext
    have hj : (j 0).val < 16 := (j 0).isLt
    have h1 : o + 16 ≤ n := inb 0
    show o + 1 * (j 0).val = (o + (j 0).val) % n
    rw [Nat.mod_eq_of_lt (by omega), Nat.one_mul]

variable {F : FTy → Type} [FloatOps F]

/-- The eight accumulators. -/
abbrev Acc8 (F : FTy → Type) : Type :=
  FVec F S16 .f32 × FVec F S16 .f32 × FVec F S16 .f32 × FVec F S16 .f32 × FVec F S16 .f32 × FVec F S16 .f32 × FVec F S16 .f32 × FVec F S16 .f32

/-- Accumulator `k` after one trip that reads `ld r k` of row `r`. -/
def addRows (ld : Fin 4 → Fin 8 → FVec F S16 .f32) (k : Fin 8) (a : FVec F S16 .f32) : FVec F S16 .f32 :=
  addf (addf (addf (addf a (ld 0 k)) (ld 1 k)) (ld 2 k)) (ld 3 k)

/-- What trip `t` over the chunk `X` reads of its row `r` for accumulator `k`. -/
def words (X : S32768.Idx → Elt F .f32) (t : ℕ) (r : Fin 4) (k : Fin 8) : FVec F S16 .f32 :=
  lane X (512 * t + 128 * r.val + 16 * k.val)

/-- Accumulator `k` after the first `t` trips over the chunk `X`, from `a`. -/
def runAcc (X : S32768.Idx → Elt F .f32) (k : Fin 8) (a : FVec F S16 .f32) : ℕ → FVec F S16 .f32
  | 0 => a
  | t + 1 => addRows (words X t) k (runAcc X k a t)

/-- All eight. -/
abbrev run8 (X : S32768.Idx → Elt F .f32) (A : Acc8 F) (t : ℕ) : Acc8 F :=
  (runAcc X 0 A.1 t, runAcc X 1 A.2.1 t, runAcc X 2 A.2.2.1 t, runAcc X 3 A.2.2.2.1 t,
    runAcc X 4 A.2.2.2.2.1 t, runAcc X 5 A.2.2.2.2.2.1 t, runAcc X 6 A.2.2.2.2.2.2.1 t, runAcc X 7 A.2.2.2.2.2.2.2 t)

/-- Sixteen zeros. -/
def zeros : FVec F S16 .f32 := broadcast S16 (Scalar.ofBits .f32 0x00000000#32)

/-- Chunk `r` of the worker whose words begin at `b`. -/
def chunk (x : S33554432.Idx → Elt F .f32) (b r : ℕ) : S32768.Idx → Elt F .f32 :=
  fun j => x (at1 33554432 (b + 32768 * r + (j 0).val))

/-- Accumulator `k` after the first `r` chunks of the worker whose words begin at `b`. -/
def chunkAcc (x : S33554432.Idx → Elt F .f32) (b : ℕ) (k : Fin 8) : ℕ → FVec F S16 .f32
  | 0 => zeros
  | r + 1 => runAcc (chunk x b r) k (chunkAcc x b k r) 64

/-- The sixteen words a worker writes: its accumulators times the weights, summed. -/
def weigh (w : S128.Idx → Elt F .f32) (A : Fin 8 → FVec F S16 .f32) : FVec F S16 .f32 :=
  addf (addf (addf (addf (addf (addf (addf (addf zeros (mulf (A 0) (lane w 0))) (mulf (A 1) (lane w 16))) (mulf (A 2) (lane w 32)))
    (mulf (A 3) (lane w 48))) (mulf (A 4) (lane w 64))) (mulf (A 5) (lane w 80))) (mulf (A 6) (lane w 96))) (mulf (A 7) (lane w 112))

/-- Worker `p`'s row of the SparseCores' result. -/
def row (x : S33554432.Idx → Elt F .f32) (w : S128.Idx → Elt F .f32) (p : ℕ) : FVec F S16 .f32 :=
  weigh w fun k => chunkAcc x (557056 * p) k 17

/-- The SparseCores' result: one row per worker. -/
def scOut (x : S33554432.Idx → Elt F .f32) (w : S128.Idx → Elt F .f32) : S32x16.Idx → Elt F .f32 :=
  fun j => row x w (j 0).val (at1 16 (j 1).val)

end Cert.Proof.Lanes

end
-- ==== Proof.Base.lean ====
/-
  The kernel as the launch theorem sees it: its one SparseCore call, its body tables, the ghost state, the buffers.
-/
module

public import proofs.«01_k».proof.Proof.Lanes
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.Base

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

abbrev UH : Type := URounds (GSem nD τ sig) ℕ
abbrev UP : Type := URounds (GSem nD τ sig) Unit
abbrev UU : Type := UH × (UP × Counters)

/-- The machine's resources at this ghost state. -/
abbrev MM (F : FTy → Type) : Type := MT nD τ sig (HIx 1) (Elt F) ℕ UU ℕ

abbrev EH : Emb UH (MM F) := embL
def EP : Emb UP (MM F) := (Emb.inl : Emb UP (UP × Counters)).trans embR

instance EP_landsIn : (EP (F := F)).LandsIn (upEmb : UEmb _ (MM F)) := by unfold EP embR; infer_instance

/-! ## The buffers -/

abbrev xLoc (d : Dev nD) : Loc nD τ sig := (SparseCore.T d).loc main_arg0
abbrev wLoc (d : Dev nD) : Loc nD τ sig := (SparseCore.T d).loc main_arg1
abbrev fLoc (d : Dev nD) : Loc nD τ sig := (SparseCore.T d).loc main_v0
abbrev oLoc (d : Dev nD) : Loc nD τ sig := (SparseCore.T d).loc main_v1

end Cert.Proof.Base

end
-- ==== Proof.Blocks.lean ====
/-
  The TensorCore's two kernels' bodies, with values: one block of rows added into the 8 x 128 accumulator (reset at the
  first grid point, weighed at the last), and the final sum of the two partial results.
-/
module

public import proofs.«01_k».proof.Proof.Base
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Value
public import Idealize.ShloMosaic.Lib.Pipeline.FrameBody
public import Idealize.ShloMosaic.Lib.Tactic

@[expose] public section

noncomputable section

namespace Cert.Proof.Blocks

open Cert.KernelIdeal Cert.KernelIdeal.Gen Cert.Proof.Base
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- Memref `M`'s buffer on core `c`, held whole at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

theorem hz : (![0, 0] : Fin 2 → Nat) = fun _ => 0 := funext fun a => by fin_cases a <;> rfl

/-- What point `n` makes of the accumulator `A`, from the block `x` of rows and the weights `w`. -/
def step (n : ℕ) (A : Vec F S8x128 .f32) (x : Vec F S8192x128 .f32) (w : Vec F S1x128 .f32) : Vec F S8x128 .f32 :=
  let B := k1_pay2 (if n = 0 then k1_pay1 else A) x
  if n = 14 then k1_pay3 B w else B

theorem first_iff : ∀ k : Fin 15, (Scalar.cmpi .ne (Scalar.extui (Scalar.cmpi .eq (BitVec.ofNat 32 k.val) 0#32) : BitVec 32) 0#32 = 1#1) ↔ k.val = 0 := by decide
theorem last_iff : ∀ k : Fin 15, (Scalar.cmpi .ne (Scalar.extui (Scalar.cmpi .eq (BitVec.ofNat 32 k.val) 14#32) : BitVec 32) 0#32 = 1#1) ↔ k.val = 14 := by decide

/-- Contents stored last over a whole buffer are what a read of it gives. -/
theorem read_stored {sp : Space} {S : Shape} {e : EltTy} (M : Memref sig .tc sp S e) (f : M.view.ty.Contents (Elt F)) {off : Fin S.rank → Nat}
    (h : off = fun _ => 0) (inb : ∀ a, off a + S.size a ≤ S.size a) (x : S.Idx → Elt F e) (L : List (View.Piece (Elt F) S e)) :
    M.view.read (Elt F) (M.view.writes (Elt F) f (⟨Rect.unit off S.size inb, x⟩ :: L)) = x := by
  rw [View.read_writes_eq_canon _ _ _ (fun y => ⟨_, List.mem_cons_self, View.mem_set_unit_zero h inb y⟩)]
  exact View.canon_cons_unit_zero h inb x L

/-- A load of a whole buffer reads its contents. -/
theorem load_whole {sp : Space} {S : Shape} {e : EltTy} (M : Memref sig .tc sp S e) (f : M.view.ty.Contents (Elt F)) {off : Fin S.rank → Nat}
    (h : off = fun _ => 0) (inb : ∀ a, off a + S.size a ≤ S.size a) :
    View.readAt (Elt F) M.view (Rect.unit off S.size inb).toLoadRect f = M.view.read (Elt F) f := by
  rw [View.readAt_eq_ld]; exact View.ld_unit_zero h inb _

/-- The accumulating body at a grid point. -/
theorem tc_body (c : Dev nD) (i : grid1.Coords) (a1 : Memref sig .tc .vmem S8192x128 .f32) (h1 : a1.IsWhole) (a2 : Memref sig .tc .vmem S1x128 .f32) (h2 : a2.IsWhole)
    (a3 : Memref sig .tc .vmem S8x128 .f32) (h3 : a3.IsWhole) (f1 : Buf (Elt F) (a1.view.loc (c : Thread nD τ))) (f2 : Buf (Elt F) (a2.view.loc (c : Thread nD τ)))
    (f3 : Buf (Elt F) (a3.view.loc (c : Thread nD τ))) (E : Set ℕ) (Q : PUnit → sProp 𝕄) :
    iprop(pt c a1 f1 ∗ pt c a2 f2 ∗ pt c a3 f3
        ∗ (iprop(pt c a1 f1 ∗ pt c a2 f2 ∗ ∃ g, ⌜a3.view.read (Elt F) g = step (i 0).val (a3.view.read (Elt F) f3) (a1.view.read (Elt F) f1) (a2.view.read (Elt F) f2)⌝ ∗ pt c a3 g) -∗ Q ⟨⟩))
      ⊢ wp frame (wpE (defs₀ (F := F)) 𝒱₀ c none) E (cc1__tc_body i a1 h1 a2 h2 a3 h3) Q := by
  have hf := first_iff (i 0)
  have hl := last_iff (i 0)
  by_cases h0 : (i 0).val = 0
  · have c1 := hf.mpr h0
    have c2 : ¬ _ := fun h => absurd (hl.mp h) (by omega)
    iintro ⟨H1, H2, H3, Hk⟩
    sl_unfold [cc1__tc_body]
    sl_exec
    sl_step
    iapply Hk
    isplitl [H1]; · iexact H1
    isplitl [H2]; · iexact H2
    iexists _
    isplitr [H3]; rotate_left; · iexact H3
    ipureintro
    sl_unfold_words
    rw [read_stored _ _ hz, View.readCov_unit_zero (S := S8x128) _ hz, load_whole _ _ hz]
    unfold step
    rw [if_pos h0, if_neg (by omega)]
  have c1 : ¬ _ := fun h => h0 (hf.mp h)
  by_cases h14 : (i 0).val = 14
  · have c2 := hl.mpr h14
    iintro ⟨H1, H2, H3, Hk⟩
    sl_unfold [cc1__tc_body]
    sl_exec
    sl_step
    iapply Hk
    isplitl [H1]; · iexact H1
    isplitl [H2]; · iexact H2
    iexists _
    isplitr [H3]; rotate_left; · iexact H3
    ipureintro
    sl_unfold_words
    rw [read_stored _ _ hz, View.readCov_unit_zero (S := S8x128) _ hz, load_whole _ _ hz, load_whole _ _ hz, load_whole _ _ hz]
    unfold step
    rw [if_neg h0, if_pos h14]
  · have c2 : ¬ _ := fun h => h14 (hl.mp h)
    iintro ⟨H1, H2, H3, Hk⟩
    sl_unfold [cc1__tc_body]
    sl_exec
    sl_step
    iapply Hk
    isplitl [H1]; · iexact H1
    isplitl [H2]; · iexact H2
    iexists _
    isplitr [H3]; rotate_left; · iexact H3
    ipureintro
    sl_unfold_words
    rw [read_stored _ _ hz, load_whole _ _ hz, load_whole _ _ hz]
    unfold step
    rw [if_neg h0, if_neg h14]

/-- The body that adds the two partial results up. -/
theorem finish_body (c : Dev nD) (a0 : Memref sig .tc .vmem S32x16 .f32) (h0 : a0.IsWhole) (a1 : Memref sig .tc .vmem S8x128 .f32) (h1 : a1.IsWhole)
    (a2 : Memref sig .tc .vmem S1x1 .f32) (h2 : a2.IsWhole) (f0 : Buf (Elt F) (a0.view.loc (c : Thread nD τ))) (f1 : Buf (Elt F) (a1.view.loc (c : Thread nD τ)))
    (f2 : Buf (Elt F) (a2.view.loc (c : Thread nD τ))) (E : Set ℕ) (Q : PUnit → sProp 𝕄) :
    iprop(pt c a0 f0 ∗ pt c a1 f1 ∗ pt c a2 f2
        ∗ (iprop(pt c a0 f0 ∗ pt c a1 f1 ∗ ∃ g, ⌜a2.view.read (Elt F) g = k2_pay1 (a0.view.read (Elt F) f0) (a1.view.read (Elt F) f1)⌝ ∗ pt c a2 g) -∗ Q ⟨⟩))
      ⊢ wp frame (wpE (defs₀ (F := F)) 𝒱₀ c none) E (cc2__finish_body a0 h0 a1 h1 a2 h2) Q := by
  iintro ⟨H1, H2, H3, Hk⟩
  sl_unfold [cc2__finish_body]
  sl_exec
  sl_step
  iapply Hk
  isplitl [H1]; · iexact H1
  isplitl [H2]; · iexact H2
  iexists _
  isplitr [H3]; rotate_left; · iexact H3
  ipureintro
  sl_unfold_words
  rw [read_stored _ _ hz, load_whole _ _ hz, load_whole _ _ hz]

end Cert.Proof.Blocks

end
-- ==== Proof.Region.lean ====
/-
  The TensorCore's two calls as kernel regions of @main: what each leaves in its result, from any contents of the buffers.
-/
module

public import proofs.«01_k».proof.Proof.Blocks
public import Idealize.ShloMosaic.Lib.Pipeline.RegionsLoop
public import Idealize.ShloMosaic.Lib.Pipeline.Regions

@[expose] public section

noncomputable section

namespace Cert.Proof.Region

open Cert.KernelIdeal Cert.KernelIdeal.Gen Cert.Proof.Base Cert.Proof.Blocks
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- Contents of every buffer the TensorCore names, per device. -/
abbrev Vals (F : FTy → Type) : Type := (c : Dev nD) → (b : Ref sig .tc) → Buf (Elt F) ((c : Thread nD τ).loc b)

/-- The pairs a thread may have recorded at or below level `b`. -/
abbrev Rec (b : ℕ) (c : Dev nD) : Set (SemLoc sig × HIx 1) := {p | (K (F := F)).lev ((T c : Thread nD τ), p.1) p.2 ≤ b}

theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  obtain ⟨b, rfl, rfl, rfl, e⟩ := h
  obtain rfl := eq_of_heq e
  unfold owns pt
  simp only [Memref.view_whole, View.set_whole]

/-! ## The accumulation -/

section Acc

variable (b : ℕ) (V : Vals F)

abbrev xblk (c : Dev nD) (t : Fin cfg1.N) : Vec F S8192x128 .f32 := ((cfg1.win 0).blk t).view.read (Elt F) (V c main_arg0)
abbrev wblk (c : Dev nD) (t : Fin cfg1.N) : Vec F S1x128 .f32 := ((cfg1.win 1).blk t).view.read (Elt F) (V c main_v2)

/-- The accumulator after point `n`. -/
def accAt (c : Dev nD) : (n : ℕ) → n < cfg1.N → Vec F S8x128 .f32
  | 0, h => step 0 k1_pay1 (xblk V c ⟨0, h⟩) (wblk V c ⟨0, h⟩)
  | n + 1, h => step (n + 1) (accAt c n (Nat.lt_of_succ_lt h)) (xblk V c ⟨n + 1, h⟩) (wblk V c ⟨n + 1, h⟩)

def dat1 (c : Dev nD) : Dat τ (Elt F) (HIx 1) ℕ UU ℕ cfg1 c where
  A w := V c (Pipeline.arrRef spec1 w)
  after w t := match w with
    | ⟨0, _⟩ => xblk V c t
    | ⟨1, _⟩ => wblk V c t
    | ⟨2, _⟩ => accAt V c t.val t.isLt
  Φ _ := Pipeline.scopedRest (Ix := HIx 1) (Name := ℕ) (U := UU) (Lvl := ℕ) (Val := Elt F) spec1 c
  q _ := fullShare
  owed _ := 0
  recorded _ := Rec (F := F) b c

theorem coord_eq : ∀ t : Fin grid1.N, (grid1.coords t 0).val = t.val := by decide +kernel

theorem before1_0 (c : Dev nD) (t : Fin cfg1.N) (d) : (dat1 b V c).before 0 t d = xblk V c t :=
  ((dat1 b V c).before_fetched 0 t (fetch1_0 t) d).trans rfl

theorem before1_1 (c : Dev nD) (t : Fin cfg1.N) (d) : (dat1 b V c).before 1 t d = wblk V c t :=
  ((dat1 b V c).before_in_eq_fetched 1 rfl (fun _ => rfl) (fun _ _ _ => rfl) (fun _ => rfl) t d).trans rfl

theorem before1_2 (c : Dev nD) (n : ℕ) (h : n + 1 < cfg1.N) (d) : (dat1 b V c).before 2 ⟨n + 1, h⟩ d = accAt V c n (Nat.lt_of_succ_lt h) := by
  have hN : cfg1.N = 15 := N_1
  exact ((dat1 b V c).before_out_kept 2 rfl ⟨n + 1, h⟩ (Nat.succ_ne_zero n)
    (by rw [← Bool.not_eq_true]; intro hf; have := (flush1_2 _).mp hf; dsimp only at this; omega) (fun _ => rfl) (fun _ _ => rfl) d).trans rfl

theorem after1 (c : Dev nD) (t : Fin cfg1.N) (d) :
    step (grid1.coords t 0).val ((dat1 b V c).before 2 t d) (xblk V c t) (wblk V c t) = accAt V c t.val t.isLt := by
  rw [coord_eq]
  obtain ⟨n, h⟩ := t
  cases n with
  | zero => rfl
  | succ n => rw [before1_2]; rfl

theorem whole1_0 (t : Fin cfg1.N) : (st1_0 t).IsWhole := hstage1_0 ((cfg1.slots t 0).cast nbuf1_0)
theorem whole1_1 (t : Fin cfg1.N) : (st1_1 t).IsWhole := hstage1_1 ((cfg1.slots t 1).cast nbuf1_1)
theorem whole1_2 (t : Fin cfg1.N) : (st1_2 t).IsWhole := hstage1_2 ((cfg1.slots t 2).cast nbuf1_2)

theorem body1 (c : Dev nD) : BodyObligation (dat1 b V c) (defs₀ (F := F)) 𝒱₀ none Set.univ := fun t => by
  rw [bigSep_W1, bigSep_W1]
  rw [show (dat1 b V c).Φ t.castSucc = (dat1 b V c).Φ t.succ from rfl, show (dat1 b V c).owesAt none t.succ = (dat1 b V c).owesAt none t.castSucc from rfl]
  iintro ⟨HΦ, Howes, ⟨%d0, H0⟩, ⟨%d1, H1⟩, ⟨%d2, H2⟩⟩
  ihave H0 := (Entails.of_eq (owns_pt c (st1_0 t) (whole1_0 t) _)) $$ H0
  ihave H1 := (Entails.of_eq (owns_pt c (st1_1 t) (whole1_1 t) _)) $$ H1
  ihave H2 := (Entails.of_eq (owns_pt c (st1_2 t) (whole1_2 t) _)) $$ H2
  icases H0 with ⟨%f0, %h0, H0⟩
  icases H1 with ⟨%f1, %h1, H1⟩
  icases H2 with ⟨%f2, %h2, H2⟩
  iapply (tc_body c (grid1.coords t) (st1_0 t) (whole1_0 t) (st1_1 t) (whole1_1 t) (st1_2 t) (whole1_2 t) f0 f1 f2 Set.univ _)
  isplitl [H0]; · iexact H0
  isplitl [H1]; · iexact H1
  isplitl [H2]; · iexact H2
  iintro ⟨H0, H1, %g, %hg, H2⟩
  isplitl [HΦ]; · iexact HΦ
  isplitl [Howes]; · iexact Howes
  isplitl [H0]
  · iapply (Entails.of_eq (owns_pt c (st1_0 t) (whole1_0 t) _).symm)
    iexists f0; isplitr [H0]; rotate_left; · iexact H0
    ipureintro; exact h0.trans (before1_0 b V c t d0)
  isplitl [H1]
  · iapply (Entails.of_eq (owns_pt c (st1_1 t) (whole1_1 t) _).symm)
    iexists f1; isplitr [H1]; rotate_left; · iexact H1
    ipureintro; exact h1.trans (before1_1 b V c t d1)
  · iapply (Entails.of_eq (owns_pt c (st1_2 t) (whole1_2 t) _).symm)
    iexists g; isplitr [H2]; rotate_left; · iexact H2
    ipureintro
    refine hg.trans ?_
    rw [h2, h0, h1, before1_0, before1_1]
    exact after1 b V c t d2

/-- The sum the first region leaves. -/
abbrev total (c : Dev nD) : Vec F S8x128 .f32 := accAt V c 14 (by rw [show cfg1.N = 15 from N_1]; decide)

theorem flushed1 (c : Dev nD) (t : Fin cfg1.N) (hf : (cfg1.win 2).flush t = true) :
    (dat1 b V c).flushed 2 t = ((cfg1.win 2).blk t).view.read (Elt F) (total V c : Buf (Elt F) ((c : Thread nD τ).loc main_v3)) := by
  have hN : cfg1.N = 15 := N_1
  have h14 : t.val = 14 := by have := (flush1_2 t).mp hf; have := t.isLt; omega
  obtain rfl : t = t1_14 := Fin.ext h14
  have hz' : (fun a => win1_2.index t1_14 a * main_v3.ty.shape.size a) = fun _ => 0 := funext fun a => by fin_cases a <;> decide
  exact (Memref.read_access_unit_zero (Elt F) main_v3 hz' (fun a => by rw [congrFun hz' a]; simp) (total V c)).symm

theorem final1 (c : Dev nD) : (dat1 b V c).arrAt 2 cfg1.N = (total V c : Buf (Elt F) ((c : Thread nD τ).loc main_v3)) :=
  (dat1 b V c).arrAt_eq_of_cover 2 (total V c) (flushed1 b V c) fun i =>
    ⟨t1_14, (flush1_2 t1_14).mpr rfl, by
      show i ∈ ((View.whole main_v3).slice (win1_2.rect t1_14)).set
      rw [View.set_slice_whole]
      have hz' : (fun a => win1_2.index t1_14 a * win1_2.size a) = fun _ => 0 := funext fun a => by fin_cases a <;> decide
      exact View.mem_set_unit_zero hz' _ i⟩

end Acc

/-! ## The final sum -/

section Finish

variable (b : ℕ) (V : Vals F)

/-- What the second region leaves. -/
abbrev finished (c : Dev nD) : Vec F S1x1 .f32 := k2_pay1 (V c main_v1) (V c main_v3)

def dat2 (c : Dev nD) : Dat τ (Elt F) (HIx 1) ℕ UU ℕ cfg2 c where
  A w := V c (Pipeline.arrRef spec2 w)
  after w t := match w with
    | ⟨0, _⟩ => V c main_v1
    | ⟨1, _⟩ => V c main_v3
    | ⟨2, _⟩ => finished V c
  Φ _ := Pipeline.scopedRest (Ix := HIx 1) (Name := ℕ) (U := UU) (Lvl := ℕ) (Val := Elt F) spec2 c
  q _ := fullShare
  owed _ := 0
  recorded _ := Rec (F := F) b c

theorem before2_0 (c : Dev nD) (d) : (dat2 b V c).before 0 t2_0 d = V c main_v1 := by
  refine ((dat2 b V c).before_fetched 0 t2_0 (fetch2_0 _) d).trans ?_
  have hz' : (fun a => win2_0.index t2_0 a * main_v1.ty.shape.size a) = fun _ => 0 := funext fun a => by fin_cases a <;> decide
  exact Memref.read_access_unit_zero (Elt F) main_v1 hz' (fun a => by rw [congrFun hz' a]; simp) (V c main_v1)

theorem before2_1 (c : Dev nD) (d) : (dat2 b V c).before 1 t2_0 d = V c main_v3 := by
  refine ((dat2 b V c).before_fetched 1 t2_0 (fetch2_1 _) d).trans ?_
  have hz' : (fun a => win2_1.index t2_0 a * main_v3.ty.shape.size a) = fun _ => 0 := funext fun a => by fin_cases a <;> decide
  exact Memref.read_access_unit_zero (Elt F) main_v3 hz' (fun a => by rw [congrFun hz' a]; simp) (V c main_v3)

theorem whole2_0 (t : Fin cfg2.N) : (st2_0 t).IsWhole := hstage2_0 0
theorem whole2_1 (t : Fin cfg2.N) : (st2_1 t).IsWhole := hstage2_1 0
theorem whole2_2 (t : Fin cfg2.N) : (st2_2 t).IsWhole := hstage2_2 0

theorem body2 (c : Dev nD) : BodyObligation (dat2 b V c) (defs₀ (F := F)) 𝒱₀ none Set.univ := fun t => by
  obtain rfl := fin_N2 t
  rw [bigSep_W2, bigSep_W2]
  rw [show (dat2 b V c).Φ t2_0.castSucc = (dat2 b V c).Φ t2_0.succ from rfl, show (dat2 b V c).owesAt none t2_0.succ = (dat2 b V c).owesAt none t2_0.castSucc from rfl]
  iintro ⟨HΦ, Howes, ⟨%d0, H0⟩, ⟨%d1, H1⟩, ⟨%d2, H2⟩⟩
  ihave H0 := (Entails.of_eq (owns_pt c (st2_0 t2_0) (whole2_0 t2_0) _)) $$ H0
  ihave H1 := (Entails.of_eq (owns_pt c (st2_1 t2_0) (whole2_1 t2_0) _)) $$ H1
  ihave H2 := (Entails.of_eq (owns_pt c (st2_2 t2_0) (whole2_2 t2_0) _)) $$ H2
  icases H0 with ⟨%f0, %h0, H0⟩
  icases H1 with ⟨%f1, %h1, H1⟩
  icases H2 with ⟨%f2, %h2, H2⟩
  iapply (finish_body c (st2_0 t2_0) (whole2_0 t2_0) (st2_1 t2_0) (whole2_1 t2_0) (st2_2 t2_0) (whole2_2 t2_0) f0 f1 f2 Set.univ _)
  isplitl [H0]; · iexact H0
  isplitl [H1]; · iexact H1
  isplitl [H2]; · iexact H2
  iintro ⟨H0, H1, %g, %hg, H2⟩
  isplitl [HΦ]; · iexact HΦ
  isplitl [Howes]; · iexact Howes
  isplitl [H0]
  · iapply (Entails.of_eq (owns_pt c (st2_0 t2_0) (whole2_0 t2_0) _).symm)
    iexists f0; isplitr [H0]; rotate_left; · iexact H0
    ipureintro; exact h0.trans (before2_0 b V c d0)
  isplitl [H1]
  · iapply (Entails.of_eq (owns_pt c (st2_1 t2_0) (whole2_1 t2_0) _).symm)
    iexists f1; isplitr [H1]; rotate_left; · iexact H1
    ipureintro; exact h1.trans (before2_1 b V c d1)
  · iapply (Entails.of_eq (owns_pt c (st2_2 t2_0) (whole2_2 t2_0) _).symm)
    iexists g; isplitr [H2]; rotate_left; · iexact H2
    ipureintro
    refine hg.trans ?_
    rw [h0, h1, before2_0, before2_1]
    rfl

theorem flushed2 (c : Dev nD) (t : Fin cfg2.N) (hf : (cfg2.win 2).flush t = true) :
    (dat2 b V c).flushed 2 t = ((cfg2.win 2).blk t).view.read (Elt F) (finished V c : Buf (Elt F) ((c : Thread nD τ).loc main_v4)) := by
  obtain rfl := fin_N2 t
  have hz' : (fun a => win2_2.index t2_0 a * main_v4.ty.shape.size a) = fun _ => 0 := funext fun a => by fin_cases a <;> decide
  exact (Memref.read_access_unit_zero (Elt F) main_v4 hz' (fun a => by rw [congrFun hz' a]; simp) (finished V c)).symm

theorem final2 (c : Dev nD) : (dat2 b V c).arrAt 2 cfg2.N = (finished V c : Buf (Elt F) ((c : Thread nD τ).loc main_v4)) :=
  (dat2 b V c).arrAt_eq_of_cover 2 (finished V c) (flushed2 b V c) fun i =>
    ⟨t2_0, flush2_2 t2_0, by
      show i ∈ ((View.whole main_v4).slice (win2_2.rect t2_0)).set
      rw [View.set_slice_whole]
      have hz' : (fun a => win2_2.index t2_0 a * win2_2.size a) = fun _ => 0 := funext fun a => by fin_cases a <;> decide
      exact View.mem_set_unit_zero hz' _ i⟩

end Finish

/-! ## The two regions over the thread state -/

abbrev adm : (p : Fin 2) → (pcfgs (F := F) p).Adm := fun p => (cfgs p).toPCfg_adm

/-- The proof data of both pipelines, each from the contents it is entered with. -/
def pdats (b : ℕ) (V₁ V₂ : Vals F) : (p : Fin 2) → (c : Dev nD) → Dat τ (Elt F) (HIx 1) ℕ UU ℕ (Pipeline.pin (pcfgs (F := F)) adm p) c
  | ⟨0, _⟩ => fun c => dat1 b V₁ c
  | ⟨1, _⟩ => fun c => dat2 b V₂ c

/-- What the TensorCore holds between statements: every buffer it names at contents `V`, nothing owed, its recorded waits at or below `b`. -/
def St (b : ℕ) (V : Vals F) (c : Dev nD) : sProp 𝕄 :=
  iprop(unscopedBufs c (V c) ∗ ∃ W, ⌜(K (F := F)).WBelow (T c) W b⌝ ∗ owes (c : Thread nD τ) (0 : CellTallies nD τ sig (HIx 1)) W)

section Regs

variable (b : ℕ) (V₁ V₂ V₃ : Vals F)

/-- A region of this program between thread states. -/
abbrev Seg (b : ℕ) (V₁ V₂ : Vals F) (p : Fin 2) := Pipeline.RegionSeg (pcfgs (F := F)) adm (pdats b V₁ V₂) none defs₀ 𝒱₀ (K (F := F)).L (K (F := F)).lev p

theorem bound_lev {cfg : Cfg sig Λ₀} (c : Dev nD) (dat : Dat τ (Elt F) (HIx 1) ℕ UU ℕ cfg c) (t) (h : dat.recorded t = Rec (F := F) b c)
    {W : Waits sig (HIx 1)} (hW : (↑W : Set (SemLoc sig × HIx 1)) ⊆ dat.bound none t) : (K (F := F)).WBelow (T c) W b := by
  intro p hp
  rcases hW hp with h' | ⟨w, s, rfl⟩
  · rw [h] at h'; exact h'
  · exact Nat.zero_le _

set_option backward.isDefEq.respectTransparency.types false in
def reg0 (hout : ∀ c, V₂ c main_v3 = total V₁ c) (hne : ∀ c (r : Ref sig .tc), r ≠ main_v3 → V₂ c r = V₁ c r) : Seg b V₁ V₂ 0 where
  win := launch1.win.to₀
  block_pos := launch1.block_pos
  stage_whole := launch1.stage_whole
  K := PEmpty
  osem k := k.elim
  ho := Pipeline.OwnSemFacts.none _
  hbody c := (body1 b V₁ c).loose
  hwaits := Pipeline.hwaits_of_owed_zero _ _ _ _ _ _ 0 fun _ _ => rfl
  pre := St b V₁
  post := St b V₂
  X _ := BI.emp
  Y _ := BI.emp
  Z c := Pipeline.unscopedRest (Ix := HIx 1) (Name := ℕ) (U := UU) (Lvl := ℕ) spec1 c (V₁ c)
  hentry c := by
    rw [Pipeline.ownSems0_none]
    have hsplit := Pipeline.arrays_of_unscopedBufs (p := 0) (pcfgs (F := F)) adm (pdats b V₁ V₂) launch1.win launch1.arr_whole c
      ((pdats b V₁ V₂ 0 c).share_full fun _ => rfl) (V₁ c) fun _ => rfl
    unfold St
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats b V₁ V₂ 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats b V₁ V₂ 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats b V₁ V₂) ((pdats b V₁ V₂ 0 c).share_full fun _ => rfl) (V₁ c) (V₂ c) ((pdats b V₁ V₂ 0 c).arrAt · cfg1.N)
      (fun w => by
        fin_cases w
        · exact ((pdats b V₁ V₂ 0 c).arrAt_in 0 rfl _).trans (hne c main_arg0 (by decide)).symm
        · exact ((pdats b V₁ V₂ 0 c).arrAt_in 1 rfl _).trans (hne c main_v2 (by decide)).symm
        · exact (final1 b V₁ c).trans (hout c).symm)
      (fun r hr => hne c r fun h => hr (h ▸ Finset.mem_image.mpr ⟨2, Finset.mem_univ _, rfl⟩))
    unfold St
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; · ipureintro; exact bound_lev b c _ _ rfl hW
    iexact HO

set_option backward.isDefEq.respectTransparency.types false in
def reg1 (hout : ∀ c, V₃ c main_v4 = finished V₂ c) (hne : ∀ c (r : Ref sig .tc), r ≠ main_v4 → V₃ c r = V₂ c r) : Seg b V₁ V₂ 1 where
  win := launch2.win.to₀
  block_pos := launch2.block_pos
  stage_whole := launch2.stage_whole
  K := PEmpty
  osem k := k.elim
  ho := Pipeline.OwnSemFacts.none _
  hbody c := (body2 b V₂ c).loose
  hwaits := Pipeline.hwaits_of_owed_zero _ _ _ _ _ _ 1 fun _ _ => rfl
  pre := St b V₂
  post := St b V₃
  X _ := BI.emp
  Y _ := BI.emp
  Z c := Pipeline.unscopedRest (Ix := HIx 1) (Name := ℕ) (U := UU) (Lvl := ℕ) spec2 c (V₂ c)
  hentry c := by
    rw [Pipeline.ownSems0_none]
    have hsplit := Pipeline.arrays_of_unscopedBufs (p := 1) (pcfgs (F := F)) adm (pdats b V₁ V₂) launch2.win launch2.arr_whole c
      ((pdats b V₁ V₂ 1 c).share_full fun _ => rfl) (V₂ c) fun _ => rfl
    unfold St
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats b V₁ V₂ 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats b V₁ V₂ 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats b V₁ V₂) ((pdats b V₁ V₂ 1 c).share_full fun _ => rfl) (V₂ c) (V₃ c) ((pdats b V₁ V₂ 1 c).arrAt · cfg2.N)
      (fun w => by
        fin_cases w
        · exact ((pdats b V₁ V₂ 1 c).arrAt_in 0 rfl _).trans (hne c main_v1 (by decide)).symm
        · exact ((pdats b V₁ V₂ 1 c).arrAt_in 1 rfl _).trans (hne c main_v3 (by decide)).symm
        · exact (final2 b V₂ c).trans (hout c).symm)
      (fun r hr => hne c r fun h => hr (h ▸ Finset.mem_image.mpr ⟨2, Finset.mem_univ _, rfl⟩))
    unfold St
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; · ipureintro; exact bound_lev b c _ _ rfl hW
    iexact HO

end Regs

end Cert.Proof.Region

end
-- ==== Proof.Loop.lean ====
/-
  The seventeen counted loops of the SparseCore kernel are one loop, run on one of two buffers; its invariant.
-/
module

public import proofs.«01_k».proof.Proof.Base
public import proofs.«01_k».proof.Proof.Gen.KernelIdeal.Skeleton

@[expose] public section

noncomputable section

namespace Cert.Proof.Loop

open Cert.KernelIdeal Cert.KernelIdeal.Gen
open Cert.Proof.Base Cert.Proof.Lanes
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Body

variable (i : grid0.Coords) (arg2 : Memref sig .scVector .hbm S33554432 .f32) (harg2 : arg2.IsWhole) (arg3 : Memref sig .scVector .hbm S128 .f32) (harg3 : arg3.IsWhole) (arg4 : Memref sig .scVector .hbm S32x16 .f32) (harg4 : arg4.IsWhole) (arg5 : Memref sig .scVector .vmem S32768 .f32) (harg5 : arg5.IsWhole) (arg6 : Memref sig .scVector .vmem S32768 .f32) (harg6 : arg6.IsWhole) (arg7 : Memref sig .scVector .vmem S128 .f32) (harg7 : arg7.IsWhole) (arg8 : Memref sig .scVector .vmem S16 .f32) (harg8 : arg8.IsWhole) (arg9 : DmaSems sig S_) (arg10 : DmaSems sig S_) (v165_r0 : DmaSems sig S_) (v165_r1 : DmaSems sig S_)

/-- The subcore that runs the body. -/
local notation "thr" d => V d (Fin.castLE hcore0 (i 0)) (Fin.castLE hsub0 (i 1))

omit [FloatOps F] in
/-- The thirty-two loads of trip `k`, as lane vectors of the chunk. -/
theorem loads_lane (k : Fin k0_t1_loop.trips) (f : arg5.view.ty.Contents (Elt F)) :
    (fun (r₁ : Fin 4) (r₂ : Fin 8) => shapeCast S16 (arg5.view.readAt (Elt F)
        (Rect.unit (s := S32768) (k0_off3 k (BitVec.ofNat 32 (128 * r₁.val)) (BitVec.ofNat 32 (16 * r₂.val))) S16.size (k0_off3_inb k r₁ r₂)).toLoadRect f) shapeCasts_S16_S16)
      = words (arg5.view.read (Elt F) f) k.val := by
  funext r₁ r₂
  exact (shapeCast_self _ shapeCasts_S16_S16).trans (readAt_lane arg5.view f _ (k0_off3_inb k r₁ r₂) (k0_off3_eq k r₁ r₂))

/-- What trip `t` does to the accumulators. -/
abbrev step8 (ld : Fin 4 → Fin 8 → FVec F S16 .f32) (A : Acc8 F) : Acc8 F :=
  (addRows ld 0 A.1, addRows ld 1 A.2.1, addRows ld 2 A.2.2.1, addRows ld 3 A.2.2.2.1,
    addRows ld 4 A.2.2.2.2.1, addRows ld 5 A.2.2.2.2.2.1, addRows ld 6 A.2.2.2.2.2.2.1, addRows ld 7 A.2.2.2.2.2.2.2)

/-- One trip over the chunk in `arg5`: thirty-two loads, each added to its accumulator. -/
theorem trip_run (d : Dev nD) (k : Fin k0_t1_loop.trips) (A : Acc8 F) (f : Buf (Elt F) (arg5.view.loc (thr d))) :
    (arg5.view.loc (thr d) ↦{fullShare} f : sProp (MM F))
      ⊢ wp frame (wpE (defs₀ (F := F)) 𝒱₀ (thr d) none) Set.univ
          (k0_t1_body i arg2 harg2 arg3 harg3 arg4 harg4 arg5 harg5 arg6 harg6 arg7 harg7 arg8 harg8 arg9 arg10 v165_r0 v165_r1 k A)
          fun A' => iprop((arg5.view.loc (thr d) ↦{fullShare} f) ∗ ⌜A' = step8 (words (arg5.view.read (Elt F) f) k.val) A⌝) := by
  obtain ⟨a0, a1, a2, a3, a4, a5, a6, a7⟩ := A
  unfold k0_t1_body
  iintro H
  sl_exec_parts
  sl_step
  isplitl [H]; · iexact H
  ipureintro
  sl_unfold_words
  rw [← loads_lane arg5 k f]
  rfl

/-- The eight accumulators after the chunks before `r`. -/
abbrev acc8 (x : S33554432.Idx → Elt F .f32) (b r : ℕ) : Acc8 F :=
  (chunkAcc x b 0 r, chunkAcc x b 1 r, chunkAcc x b 2 r, chunkAcc x b 3 r, chunkAcc x b 4 r, chunkAcc x b 5 r, chunkAcc x b 6 r, chunkAcc x b 7 r)

/-- The loop over chunk `r`, held in `arg5`: the chunk stays and the accumulators go from those before `r` to those after. -/
theorem chunk_wp (d : Dev nD) (x : S33554432.Idx → Elt F .f32) (b r : ℕ) (f : Buf (Elt F) (arg5.view.loc (thr d)))
    (hf : arg5.view.read (Elt F) f = chunk x b r) {β : Type} (kk : Acc8 F → Prog (TpuEff nD τ sig (Elt F) Λ₀ (.scVector ((i 0).castLE hcore0) ((i 1).castLE hsub0))) β) (Q : β → sProp (MM F)) :
    (arg5.view.loc (thr d) ↦{fullShare} f : sProp (MM F))
      ⊢ iprop(((arg5.view.loc (thr d) ↦{fullShare} f) -∗ wp frame (wpE (defs₀ (F := F)) 𝒱₀ (thr d) none) Set.univ (kk (acc8 x b (r + 1))) Q)
        -∗ wp frame (wpE (defs₀ (F := F)) 𝒱₀ (thr d) none) Set.univ
          (Scf.Loop.for k0_t1_loop k0_t1_ok (acc8 x b r)
            (k0_t1_body i arg2 harg2 arg3 harg3 arg4 harg4 arg5 harg5 arg6 harg6 arg7 harg7 arg8 harg8 arg9 arg10 v165_r0 v165_r1) >>= kk) Q) := by
  have hstep : ∀ (k : Fin k0_t1_loop.trips) (acc : Acc8 F),
      (iprop((arg5.view.loc (thr d) ↦{fullShare} f) ∗ ⌜acc = run8 (chunk x b r) (acc8 x b r) k.val⌝) : sProp (MM F))
        ⊢ wp frame (wpE (defs₀ (F := F)) 𝒱₀ (thr d) none) Set.univ
          (k0_t1_body i arg2 harg2 arg3 harg3 arg4 harg4 arg5 harg5 arg6 harg6 arg7 harg7 arg8 harg8 arg9 arg10 v165_r0 v165_r1 k acc)
          fun acc' => iprop((arg5.view.loc (thr d) ↦{fullShare} f) ∗ ⌜acc' = run8 (chunk x b r) (acc8 x b r) (k.val + 1)⌝) := by
    intro k acc
    iintro ⟨H, %hacc⟩
    subst hacc
    iapply (wp_mono frame _ _ fun A' => ?_) $$ [H]
    rotate_left
    · iapply (trip_run i arg2 harg2 arg3 harg3 arg4 harg4 arg5 harg5 arg6 harg6 arg7 harg7 arg8 harg8 arg9 arg10 v165_r0 v165_r1 d k _ f)
      iexact H
    · rw [hf]; exact .rfl
  iintro H HK
  iapply (Scf.wp_for_bind frame (wpE (Name := ℕ) (U := UU) (Ix := HIx 1) (Lvl := ℕ) (defs₀ (F := F)) 𝒱₀ (thr d) none) Set.univ
    k0_t1_loop.lb k0_t1_loop.ub k0_t1_loop.st k0_t1_ok (acc8 x b r)
    (k0_t1_body i arg2 harg2 arg3 harg3 arg4 harg4 arg5 harg5 arg6 harg6 arg7 harg7 arg8 harg8 arg9 arg10 v165_r0 v165_r1)
    (fun n acc => iprop((arg5.view.loc (thr d) ↦{fullShare} f) ∗ ⌜acc = run8 (chunk x b r) (acc8 x b r) n⌝)) hstep (kk := kk) (Q := Q)) $$ [H]
  · isplitl [H]; · iexact H
    ipureintro; rfl
  · iintro %acc ⟨H, %hacc⟩
    subst hacc
    iapply HK; iexact H

end Body

end Cert.Proof.Loop

end
-- ==== Proof.Tile.lean ====
/-
  One vector subcore's run: the weights fetched, seventeen chunks of `x` fetched two deep and added up, the sixteen
  weighted sums stored and sent to the subcore's row of the result.
-/
module

public import proofs.«01_k».proof.Proof.Loop
public import Idealize.ShloMosaic.Lib.ValueLayout
public import Idealize.ShloMosaic.Lib.VecWindow

@[expose] public section

noncomputable section

namespace Cert.Proof.Tile

open Cert.KernelIdeal Cert.KernelIdeal.Gen
open Cert.Proof.Base Cert.Proof.Lanes Cert.Proof.Loop
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

abbrev fV : Memref sig .scVector .hbm S33554432 .f32 := Memref.whole main_v0_scv
abbrev wV : Memref sig .scVector .hbm S128 .f32 := Memref.whole main_arg1_scv
abbrev oV : Memref sig .scVector .hbm S32x16 .f32 := Memref.whole main_v1_scv
abbrev aV : Memref sig .scVector .vmem S32768 .f32 := Memref.whole cc0_scratch0
abbrev bV : Memref sig .scVector .vmem S32768 .f32 := Memref.whole cc0_scratch1
abbrev vV : Memref sig .scVector .vmem S128 .f32 := Memref.whole cc0_scratch2
abbrev rV : Memref sig .scVector .vmem S16 .f32 := Memref.whole cc0_scratch3

section

variable (d : Dev nD) (L : grid0.Coords)

abbrev cV : Fin τ.nSC := (L 0).castLE hcore0
abbrev jV : Fin τ.nSub := (L 1).castLE hsub0
abbrev VT : Thread nD τ := V d (cV L) (jV L)

/-- The subcore's row of the result, squeezed, as the kernel addresses it. -/
abbrev oRowK : Memref sig .scVector .hbm S16 .f32 :=
  (oV.slice (Rect.unit (s := S32x16) (k0_off20 L) S1x16.size (k0_off20_inb L)) (fun _ => rfl)).squeeze S16 squeezes_S1x16_S16

/-- Where the subcore's words of `x` begin. -/
abbrev base : ℕ := 557056 * (2 * (L 1).val + (L 0).val)

theorem off1_base : k0_off1 L = ![base L + 32768 * 0] := (k0_off1_eq L).trans (by congr 1; simp only [base]; omega)

theorem off2_base (c : BitVec 32) (r : ℕ) (hr : 1 ≤ r ∧ r ≤ 16) (hc : c = BitVec.ofNat 32 (32768 * r)) : k0_off2 L c = ![base L + 32768 * r] := by
  have h := k0_off2_eq L ⟨r - 1, by omega⟩
  rw [show 32768 + 32768 * (⟨r - 1, by omega⟩ : Fin 16).val = 32768 * r by simp only; omega] at h
  rw [hc, h]; congr 1; simp only [base]; omega

/-- What a landed fetch of chunk `r` leaves in a chunk buffer. -/
theorem landed (b : Memref sig .scVector .vmem S32768 .f32) (f : Buf (Elt F) (b.view.loc (VT d L))) (x : Buf (Elt F) (fLoc d)) (r : ℕ) (off : Fin 1 → ℕ)
    (inb : ∀ a, off a + S32768.size a ≤ S33554432.size a) (hoff : off = ![base L + 32768 * r]) :
    b.view.read (Elt F) (View.write (Elt F) b.view f ((fV.slice (Rect.unit (s := S33554432) off S32768.size inb) (fun _ => rfl)).view.read (Elt F) x) Finset.univ)
      = chunk x (base L) r := by
  rw [View.read_write_univ]
  subst hoff
  funext j
  refine congrArg x ?_
  funext a
  match a with
  | 0 =>
    apply Fin.ext
    have hj : (j 0).val < 32768 := (j 0).isLt
    have h1 : base L + 32768 * r + 32768 ≤ 33554432 := inb 0
    show base L + 32768 * r + 1 * (j 0).val = (base L + 32768 * r + (j 0).val) % 33554432
    rw [Nat.mod_eq_of_lt (by omega), Nat.one_mul]

/-- `chunk_wp` at the kernel's own buffers, the chunk in `b`. -/
theorem chunk_at (b b' : Memref sig .scVector .vmem S32768 .f32) (hb : b.IsWhole) (hb' : b'.IsWhole) (x : Buf (Elt F) (fLoc d)) (r : ℕ) (f : Buf (Elt F) (b.view.loc (VT d L)))
    (hf : b.view.read (Elt F) f = chunk x (base L) r) {β : Type} (kk : Acc8 F → Prog (TpuEff nD τ sig (Elt F) Λ₀ (.scVector (cV L) (jV L))) β) (Q : β → sProp (MM F)) :
    (b.view.loc (VT d L) ↦{fullShare} f : sProp (MM F))
      ⊢ iprop(((b.view.loc (VT d L) ↦{fullShare} f) -∗ wp frame (wpE (defs₀ (F := F)) 𝒱₀ (VT d L) none) Set.univ (kk (acc8 x (base L) (r + 1))) Q)
        -∗ wp frame (wpE (defs₀ (F := F)) 𝒱₀ (VT d L) none) Set.univ
          (Scf.Loop.for k0_t1_loop k0_t1_ok (acc8 x (base L) r)
            (k0_t1_body L fV (Memref.isWhole_whole _) wV (Memref.isWhole_whole _) oV (Memref.isWhole_whole _) b hb b' hb' vV (Memref.isWhole_whole _) rV (Memref.isWhole_whole _)
              cc0_scratch4 cc0_scratch5 cc0_scoped0 cc0_scoped1) >>= kk) Q) :=
  chunk_wp L fV (Memref.isWhole_whole _) wV (Memref.isWhole_whole _) oV (Memref.isWhole_whole _) b hb b' hb' vV (Memref.isWhole_whole _) rV (Memref.isWhole_whole _)
    cc0_scratch4 cc0_scratch5 cc0_scoped0 cc0_scoped1 d x (base L) r f hf kk Q

/-- The weights as the subcore loads them, sixteen at a time. -/
theorem weights_lane (fv : Buf (Elt F) (vV.view.loc (VT d L))) (w : Buf (Elt F) (wLoc d)) (off : Fin 1 → ℕ) (inb : ∀ a, off a + S16.size a ≤ S128.size a) (o : ℕ) (ho : off = ![o]) :
    vV.view.readAt (Elt F) (Rect.unit (s := S128) off S16.size inb).toLoadRect (View.write (Elt F) vV.view fv (ReadAs.same.apply (View.read (Elt F) wV.view w)) Finset.univ)
      = lane w o := by
  rw [readAt_lane vV.view _ off inb ho, View.read_write_univ]; rfl

/-- What the subcore stores in its sixteen words. -/
theorem stored (x : Buf (Elt F) (fLoc d)) (w : Buf (Elt F) (wLoc d)) (W : Fin 8 → FVec F S16 .f32) (hW : ∀ k : Fin 8, W k = lane w (16 * k.val)) :
    k0_pay1 (chunkAcc x (base L) 7 17) (k0_pay503 (chunkAcc x (base L) 0 17) (chunkAcc x (base L) 1 17) (chunkAcc x (base L) 2 17) (chunkAcc x (base L) 3 17)
      (chunkAcc x (base L) 4 17) (chunkAcc x (base L) 5 17) (chunkAcc x (base L) 6 17) (W 0) (W 1) (W 2) (W 3) (W 4) (W 5) (W 6)) (W 7)
      = row x w (2 * (L 1).val + (L 0).val) := by
  unfold k0_pay1 k0_pay503
  simp only [shapeCast_self, hW]
  rfl

omit [FloatOps F] in
/-- A buffer wholly written through a view holds, on the view's elements, whatever reads the payload through it. -/
theorem writes_whole_eq {κ : Kind} {sp : Space} {s : Shape} {e : EltTy} (v : View sig κ sp s e) (f g : v.ty.Contents (Elt F)) (p : (Rect.whole s).shape.Idx → Elt F e)
    (hg : ∀ j : (Rect.whole s).shape.Idx, v.read (Elt F) g ((Rect.whole s).emb j) = p j) : ∀ i ∈ v.set, v.writes (Elt F) f [⟨Rect.whole s, p⟩] i = g i := by
  intro i hi
  obtain ⟨j, -, rfl⟩ := Finset.mem_map.mp hi
  have hl := View.read_writes_cons_emb v f (Rect.whole s) p [] j
  have h := hl.trans (hg j).symm
  rw [View.read_apply, View.read_apply, Rect.emb_whole_apply] at h
  exact cast_inj _ |>.mp h

/-- The row, read through the subcore's own view of the result. -/
theorem read_row (x : Buf (Elt F) (fLoc d)) (w : Buf (Elt F) (wLoc d)) (j : S16.Idx) :
    (oRowK L).view.read (Elt F) (scOut x w) j = row x w (2 * (L 1).val + (L 0).val) j := by
  have hc : S1x16.ShapeCasts S16 := by decide
  have h := congrFun (Memref.read_squeeze_slice (Val := Elt F) oV (Rect.unit (s := S32x16) (k0_off20 L) S1x16.size (k0_off20_inb L)) (fun _ => rfl) squeezes_S1x16_S16 hc (scOut x w)) j
  refine h.trans ?_
  rw [show j = ValueIdx.ix1 (j 0) from ValueIdx.eq_ix1 j]
  refine (ValueIdx.shapeCast_1a_a_apply _ _ _).trans ?_
  rw [View.readAt_apply]
  have h0 := congrFun (k0_off20_eq L) 0
  have h1 := congrFun (k0_off20_eq L) 1
  show row x w (k0_off20 L 0 + 1 * 0) (at1 16 (k0_off20 L 1 + 1 * (j 0).val)) = _
  rw [h0, h1]
  show row x w (2 * (L 1).val + (L 0).val + 1 * 0) (at1 16 (0 + 1 * (j 0).val)) = _
  rw [Nat.mul_zero, Nat.add_zero, Nat.zero_add, Nat.one_mul, ← eq_at1]
  exact congrArg _ (ValueIdx.eq_ix1 j)

set_option maxHeartbeats 4000000 in
theorem tile_run (q qw : PosShare TreeShare) (x : Buf (Elt F) (fLoc d)) (w : Buf (Elt F) (wLoc d)) (fo : Buf (Elt F) (oLoc d))
    (fa : Buf (Elt F) (aV.view.loc (VT d L))) (fb : Buf (Elt F) (bV.view.loc (VT d L))) (fv : Buf (Elt F) (vV.view.loc (VT d L))) (fr : Buf (Elt F) (rV.view.loc (VT d L)))
    (O : CellTallies nD τ sig (HIx 1)) (W : Waits sig (HIx 1)) :
    iprop(Transfers.MayWaits (VT d L) (default : HIx 1) O
        ∗ (fV.view.loc (VT d L) ↦{Transfers.shareTokN q 0} x)
        ∗ (fV.view.loc (VT d L) ↦{Transfers.shareTokN q 1} x)
        ∗ (wV.view.loc (VT d L) ↦{qw} w)
        ∗ ((oRowK L).view.loc (VT d L) ↦[(oRowK L).view.set]{fullShare} fo)
        ∗ (aV.view.loc (VT d L) ↦{fullShare} fa) ∗ (bV.view.loc (VT d L) ↦{fullShare} fb)
        ∗ (vV.view.loc (VT d L) ↦{fullShare} fv) ∗ (rV.view.loc (VT d L) ↦{fullShare} fr)
        ∗ semVal (VT d L, .dma cc0_scratch4.sem) 0 ∗ semVal (VT d L, .dma cc0_scratch5.sem) 0
        ∗ semVal (VT d L, .dma cc0_scoped0.sem) 0 ∗ semVal (VT d L, .dma cc0_scoped1.sem) 0
        ∗ owes (VT d L) O W)
      ⊢ (wp frame (wpE (defs₀ (F := F)) 𝒱₀ (VT d L) none) Set.univ
          (cc0_body L fV (Memref.isWhole_whole _) wV (Memref.isWhole_whole _) oV (Memref.isWhole_whole _)
            aV (Memref.isWhole_whole _) bV (Memref.isWhole_whole _) vV (Memref.isWhole_whole _) rV (Memref.isWhole_whole _)
            cc0_scratch4 cc0_scratch5 cc0_scoped0 cc0_scoped1)
          (fun _ => iprop((fV.view.loc (VT d L) ↦{Transfers.shareTokN q 0} x)
            ∗ (fV.view.loc (VT d L) ↦{Transfers.shareTokN q 1} x)
            ∗ (wV.view.loc (VT d L) ↦{qw} w)
            ∗ ((oRowK L).view.loc (VT d L) ↦[(oRowK L).view.set]{fullShare} scOut x w)
            ∗ (∃ f, aV.view.loc (VT d L) ↦{fullShare} f) ∗ (∃ f, bV.view.loc (VT d L) ↦{fullShare} f)
            ∗ (∃ f, vV.view.loc (VT d L) ↦{fullShare} f) ∗ (∃ f, rV.view.loc (VT d L) ↦{fullShare} f)
            ∗ semVal (VT d L, .dma cc0_scratch4.sem) 0 ∗ semVal (VT d L, .dma cc0_scratch5.sem) 0
            ∗ semVal (VT d L, .dma cc0_scoped0.sem) 0 ∗ semVal (VT d L, .dma cc0_scoped1.sem) 0
            ∗ ∃ W', ⌜∀ p ∈ W', p ∈ W ∨ p.2 = none⌝ ∗ owes (VT d L) O W')) : sProp (MM F)) := by
  iintro ⟨#Hmw, Hx0, Hx1, Hw, Ho, Ha, Hb, Hv, Hr, Hs0, Hs1, Hs2, Hs3, HO⟩
  sl_unfold [cc0_body]
  sl_exec
  iapply (chunk_at d L aV bV (Memref.isWhole_whole _) (Memref.isWhole_whole _) x 0 _ ?hf _ _) $$ [Ha]
  rotate_left
  · iexact Ha
  case hf => exact landed d L aV _ x _ _ _ (off1_base L)
  iintro Ha
  iterate 8
    sl_exec
    iapply (chunk_at d L bV aV (Memref.isWhole_whole _) (Memref.isWhole_whole _) x _ _ ?hf _ _) $$ [Hb]
    rotate_left
    · iexact Hb
    case hf => exact landed d L bV _ x _ _ _ (off2_base L _ _ (by decide) rfl)
    iintro Hb
    sl_exec
    iapply (chunk_at d L aV bV (Memref.isWhole_whole _) (Memref.isWhole_whole _) x _ _ ?hf _ _) $$ [Ha]
    rotate_left
    · iexact Ha
    case hf => exact landed d L aV _ x _ _ _ (off2_base L _ _ (by decide) rfl)
    iintro Ha
  sl_exec
  sl_step
  have hrow : ∀ i ∈ (oRowK L).view.set, ((oRowK L).view.writes (Elt F) fo [⟨Rect.whole S16, tile_run.sl.dma10 d L x w fv fr⟩]) i = scOut x w i := by
    refine writes_whole_eq _ _ _ _ fun j => ?_
    rw [Rect.emb_whole_apply]
    refine (read_row d L x w j).trans ?_
    refine Eq.trans (congrFun (stored d L x w (fun k => vV.view.readAt (Elt F) (Rect.unit (s := S128) ![16 * k.val] S16.size (by revert k; decide)).toLoadRect
      (View.write (Elt F) vV.view fv (ReadAs.same.apply (View.read (Elt F) wV.view w)) Finset.univ)) fun k => weights_lane d L fv w _ _ _ rfl).symm j) ?_
    sl_unfold_words
    exact (congrFun (View.read_writes_full rV.view fr (off := ![0]) inb_S16_S16_0 _ []) j).symm
  ihave Ho := (Entails.of_eq (pointsTo_congr (q := fullShare) (ℓ := (oRowK L).view.loc (VT d L)) hrow)) $$ Ho
  isplitl [Hx0]; · iexact Hx0
  isplitl [Hx1]; · iexact Hx1
  isplitl [Hw]; · iexact Hw
  isplitl [Ho]; · iexact Ho
  isplitl [Ha]; · iexists _; iexact Ha
  isplitl [Hb]; · iexists _; iexact Hb
  isplitl [Hv]; · iexists _; iexact Hv
  isplitl [Hr]; · iexists _; iexact Hr
  isplitl [Hs0]; · iexact Hs0
  isplitl [Hs1]; · iexact Hs1
  isplitl [Hs2]; · iexact Hs2
  isplitl [Hs3]; · iexact Hs3
  iexists _
  isplitr [HO]
  rotate_left
  · iexact HO
  · ipureintro
    intro p hp
    simp only [Finset.mem_insert] at hp
    rcases hp with h | h | h | h | h | h | h | h | h | h | h | h | h | h | h | h | h | h | h | h <;>
      first | exact Or.inl h | exact Or.inr (h ▸ rfl)

end

end Cert.Proof.Tile

end
-- ==== Proof.Deal.lean ====
/-
  The SparseCore call's payloads: each core gets a share of `x` and of the weights and its sixteen rows of the result;
  each subcore a share of those and its own row, and brings the row back at its value.
-/
module

public import proofs.«01_k».proof.Proof.Tile

@[expose] public section

noncomputable section

namespace Cert.Proof.Deal

open Cert.KernelIdeal Cert.KernelIdeal.Gen
open Cert.Proof.Base Cert.Proof.Lanes Cert.Proof.Tile
open Idealize.ShloMosaic
open Idealize.ShloMosaic.SparseCore (S V T)
open Idealize.ShloMosaic.SparseCore.Cfg (HIx Pay ownBufs ownSems0 ownCells ownRefs mem_ownCells mem_ownRefs)
open Idealize.ShloMosaic.Transfers (shareTok shareTokN shareDrop)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-! ## The result's rows, by worker -/

theorem odiv : 32 ∣ S32x16.size 0 := ⟨1, rfl⟩
abbrev orow (p : Fin 32) : Rect S32x16 := Rect.part (s := S32x16) (a₀ := 0) odiv p
abbrev oRowSet (p : Fin 32) : Finset S32x16.Idx := (oV.view.slice (orow p)).set

/-- The worker on subcore `i` of core `c`. -/
abbrev wid (c : Fin 2) (i : Fin 16) : Fin 32 := ⟨2 * i.val + c.val, by omega⟩

/-- Workers as pairs. -/
def widEquiv : Fin 2 × Fin 16 ≃ Fin 32 where
  toFun p := wid p.1 p.2
  invFun k := (⟨k.val % 2, by omega⟩, ⟨k.val / 2, by omega⟩)
  left_inv p := by ext <;> simp only [wid] <;> omega
  right_inv k := by ext; simp only [wid]; omega

theorem oRowSet_eq (p : Fin 32) : oRowSet p = (orow p).set := by
  show ((View.whole (main_v1_scv : Ref sig .scVector)).slice (orow p)).set = _
  rw [View.set_slice]; exact Finset.map_refl

theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h

theorem orows_cover : (Finset.univ : Finset (Fin 32)).biUnion oRowSet = Finset.univ :=
  (Finset.biUnion_congr rfl fun i _ => oRowSet_eq i).trans (Rect.biUnion_part odiv)

theorem oPts_rows (d : Dev nD) (f : Buf (Elt F) (oLoc d)) :
    (oLoc d ↦{fullShare} f : sProp (MM F)) = bigSep Finset.univ fun c : Fin 2 => bigSep Finset.univ fun i : Fin 16 => oLoc d ↦[oRowSet (wid c i)]{fullShare} f := by
  have h : (oLoc d ↦{fullShare} f : sProp (MM F)) = bigSep Finset.univ fun p : Fin 32 => oLoc d ↦[oRowSet p]{fullShare} f := by
    rw [← pointsTo_biUnion Finset.univ (ℓ := oLoc d) oRowSet orows_disjoint, orows_cover]
  rw [h, bigSep_univ_equiv widEquiv, bigSep_univ_prod]
  rfl

/-! ## The payloads -/

section

variable [FloatOps F] (X : ∀ d : Dev nD, Buf (Elt F) (fLoc d)) (w : ∀ d : Dev nD, Buf (Elt F) (wLoc d)) (o : ∀ d : Dev nD, Buf (Elt F) (oLoc d))

/-- A core's share of a buffer every subcore reads, and a subcore's. -/
abbrev cq (c : Fin 2) : PosShare TreeShare := shareTokN fullShare c.val
abbrev tq (c : Fin 2) (i : Fin 16) : PosShare TreeShare := shareTokN (cq c) i.val

abbrev coreIn (d : Dev nD) (c : Fin 2) (f : Buf (Elt F) (oLoc d)) : sProp (MM F) :=
  iprop((fLoc d ↦{cq c} X d) ∗ (wLoc d ↦{cq c} w d) ∗ bigSep Finset.univ fun i : Fin 16 => oLoc d ↦[oRowSet (wid c i)]{fullShare} f)
abbrev tileIn (d : Dev nD) (c : Fin 2) (i : Fin 16) (f : Buf (Elt F) (oLoc d)) : sProp (MM F) :=
  iprop((fLoc d ↦{tq c i} X d) ∗ (wLoc d ↦{tq c i} w d) ∗ oLoc d ↦[oRowSet (wid c i)]{fullShare} f)

/-- What the call's handshakes carry. -/
def P : (K (F := F)).Pay (nD := nD) (Val := Elt F) (Name := ℕ) (U := UU) where
  st := fun q d c => match q with | 0 => coreIn X w d (Fin.cast nCore_zero c) (o d)
  dn := fun q d c => match q with | 0 => coreIn X w d (Fin.cast nCore_zero c) (scOut (X d) (w d))
  go := fun q d c i => match q with | 0 => tileIn X w d (Fin.cast nCore_zero c) (Fin.cast nSub_zero i) (o d)
  td := fun q d c i => match q with | 0 => tileIn X w d (Fin.cast nCore_zero c) (Fin.cast nSub_zero i) (scOut (X d) (w d))
  x := fun _ _ => iprop(emp)

instance P_storable : (P X w o).IsStorable where
  st q d c := match q with
    | 0 => (inferInstance : BI.Storable (upEmb : UEmb _ (MM F)) (coreIn X w d (Fin.cast nCore_zero c) (o d)))
  dn q d c := match q with
    | 0 => (inferInstance : BI.Storable (upEmb : UEmb _ (MM F)) (coreIn X w d (Fin.cast nCore_zero c) (scOut (X d) (w d))))
  go q d c i := match q with
    | 0 => (inferInstance : BI.Storable (upEmb : UEmb _ (MM F)) (tileIn X w d (Fin.cast nCore_zero c) (Fin.cast nSub_zero i) (o d)))
  td q d c i := match q with
    | 0 => (inferInstance : BI.Storable (upEmb : UEmb _ (MM F)) (tileIn X w d (Fin.cast nCore_zero c) (Fin.cast nSub_zero i) (scOut (X d) (w d))))

/-! ## The subcore's run from its payload -/

section Body

variable (d : Dev nD) (L : grid0.Coords)

abbrev cL : Fin 2 := Fin.cast (show grid0.bound 0 = 2 from rfl) (L 0)
abbrev jL : Fin 16 := Fin.cast (show grid0.bound 1 = 16 from rfl) (L 1)

omit [FloatOps F] in
theorem orowK_eq : Rect.unit (s := S32x16) (k0_off20 L) S1x16.size (k0_off20_inb L) = orow (wid (cL L) (jL L)) := by
  unfold orow Rect.part Rect.block
  congr 1 <;> funext a
  · rw [k0_off20_eq]
    match a with
    | 0 => simp [Shape.partIx, Shape.partSize]
    | 1 => simp [Shape.partIx, Shape.partSize]
  · match a with
    | 0 => simp [Shape.partSize]
    | 1 => simp [Shape.partSize]

omit [FloatOps F] in
theorem set_oRowK : (oRowK L).view.set = oRowSet (wid (cL L) (jL L)) := by
  show ((oV.view.slice (Rect.unit (s := S32x16) (k0_off20 L) S1x16.size (k0_off20_inb L))).reshape S16 squeezes_S1x16_S16.numel_eq).set = (oV.view.slice (orow (wid (cL L) (jL L)))).set
  rw [View.set_reshape]
  exact orowK_eq L ▸ rfl

omit [FloatOps F] in
theorem pts_oRowK (f : Buf (Elt F) (oLoc d)) :
    ((oRowK L).view.loc (VT d L) ↦[(oRowK L).view.set]{fullShare} f : sProp (MM F)) = oLoc d ↦[oRowSet (wid (cL L) (jL L))]{fullShare} f := by
  rw [set_oRowK]

/-- The subcore's cell `s`. -/
abbrev cellV (s : DmaSems sig S_) : GSem nD τ sig := (VT d L, .dma s.sem)

omit [FloatOps F] in
theorem ownSems0_V :
    (ownSems0 (VT d L) : sProp (MM F))
      = iprop(semVal (cellV d L cc0_scratch4) 0 ∗ semVal (cellV d L cc0_scratch5) 0 ∗ semVal (cellV d L cc0_scoped0) 0 ∗ semVal (cellV d L cc0_scoped1) 0
          ∗ bigSep (((((ownCells (VT d L)).erase (cellV d L cc0_scratch4)).erase (cellV d L cc0_scratch5)).erase (cellV d L cc0_scoped0)).erase (cellV d L cc0_scoped1)) fun g => semVal g 0) := by
  have hm : ∀ s : DmaSems sig S_, (SemLoc.dma s.sem : SemLoc sig).isScoped .scVector = true → cellV d L s ∈ ownCells (VT d L) :=
    fun s h => mem_ownCells.mpr ⟨rfl, h⟩
  have hne : ∀ s s' : DmaSems sig S_, (SemLoc.dma s.sem : SemLoc sig) ≠ .dma s'.sem → cellV d L s ≠ cellV d L s' := fun s s' h e => h (Prod.ext_iff.mp e).2
  unfold SparseCore.Cfg.ownSems0
  rw [SparseCore.bigSep_erase' (hm cc0_scratch4 (by decide)),
    SparseCore.bigSep_erase' (Finset.mem_erase.mpr ⟨hne _ _ (by decide), hm cc0_scratch5 (by decide)⟩),
    SparseCore.bigSep_erase' (Finset.mem_erase.mpr ⟨hne _ _ (by decide), Finset.mem_erase.mpr ⟨hne _ _ (by decide), hm cc0_scoped0 (by decide)⟩⟩),
    SparseCore.bigSep_erase' (Finset.mem_erase.mpr ⟨hne _ _ (by decide), Finset.mem_erase.mpr ⟨hne _ _ (by decide),
      Finset.mem_erase.mpr ⟨hne _ _ (by decide), hm cc0_scoped1 (by decide)⟩⟩⟩)]

omit [FloatOps F] in
theorem ownBufs_V :
    (ownBufs (VT d L) : sProp (MM F))
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase
              ((Proc.scVector (cV L) (jV L)).devRef cc0_scratch2)).erase ((Proc.scVector (cV L) (jV L)).devRef cc0_scratch3))
              fun b => iprop(∃ f, ((d, b) : Loc nD τ sig) ↦{fullShare} f)) := by
  have hne : ∀ b b' : Ref sig .scVector, b ≠ b' → (Proc.scVector (cV L) (jV L)).devRef b ≠ (Proc.scVector (cV L) (jV L)).devRef b' := fun b b' h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hne _ _ (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨hne _ _ (by decide), Finset.mem_erase.mpr ⟨hne _ _ (by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨hne _ _ (by decide), Finset.mem_erase.mpr ⟨hne _ _ (by decide), Finset.mem_erase.mpr ⟨hne _ _ (by decide),
      SparseCore.Cfg.mem_ownRefs_of_owner (p := Proc.scVector (cV L) (jV L)) (b := (Proc.scVector (cV L) (jV L)).devRef cc0_scratch3) rfl⟩⟩⟩)]

omit [FloatOps F] in
/-- A share as what stays and two read tokens, one for each of the two fetches in flight. -/
theorem two_toks {ℓ : Loc nD τ sig} (q : PosShare TreeShare) (f : Buf (Elt F) ℓ) :
    (ℓ ↦{q} f : sProp (MM F)) ⊣⊢ iprop((ℓ ↦{shareDrop q 2} f) ∗ (ℓ ↦{shareTokN q 0} f) ∗ (ℓ ↦{shareTokN q 1} f)) := by
  have h : (ℓ ↦{q} f : sProp (MM F)) ⊣⊢ iprop((ℓ ↦{shareDrop q 2} f) ∗ bigSep (Finset.range 2) fun i => ℓ ↦{shareTokN q i} f) :=
    Transfers.pointsTo_toks_range (ℓ := ℓ) (S := Finset.univ) (f := f) q 2
  rw [show Finset.range 2 = {0, 1} by decide, SparseCore.bigSep_insert' (by decide), bigSep_singleton] at h
  exact h

/-- The body from the subcore's payload to what it hands back. -/
theorem tile_body (hF : (K (F := F)).Facts) (O : CellTallies nD τ sig (HIx 1)) (W : Waits sig (HIx 1)) (hO : ∀ g, O g none = 0) :
    iprop(levAts (K (F := F)).L (K (F := F)).lev ∗ emp
        ∗ tileIn X w d (cL L) (jL L) (o d)
        ∗ scopedBufs (VT d L) ∗ scopedSems0 (VT d L) ∗ owes (VT d L) O W)
      ⊢ wp frame (wpE (defs₀ (F := F)) 𝒱₀ (VT d L) none) Set.univ
          (cc0_body L fV (Memref.isWhole_whole _) wV (Memref.isWhole_whole _) oV (Memref.isWhole_whole _)
            aV (Memref.isWhole_whole _) bV (Memref.isWhole_whole _) vV (Memref.isWhole_whole _) rV (Memref.isWhole_whole _)
            cc0_scratch4 cc0_scratch5 cc0_scoped0 cc0_scoped1)
          fun _ => iprop(tileIn X w d (cL L) (jL L) (scOut (X d) (w d))
            ∗ scopedBufs (VT d L) ∗ scopedSems0 (VT d L)
            ∗ ∃ W', ⌜∀ p ∈ W', p ∈ W ∨ p.2 = none⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hx, Hw, Ho⟩, ⟨⟨%fa, Ha⟩, ⟨%fb, Hb⟩, ⟨%fv, Hv⟩, ⟨%fr, Hr⟩, Hbufs⟩, ⟨Hs0, Hs1, Hs2, Hs3, Hsems⟩, HO⟩
  ihave Hmw := (show levAts (K (F := F)).L (K (F := F)).lev ⊢ Transfers.MayWaits (VT d L) (default : HIx 1) O from
    (K (F := F)).mayWaits_none (thr := VT d L) hO) $$ Hlv
  ihave Ho' := (Entails.of_eq (pts_oRowK (F := F) d L _).symm) $$ Ho
  ihave Hx' := (two_toks (F := F) _ _).1 $$ Hx
  icases Hx' with ⟨Hxr, Hx0, Hx1⟩
  ihave Hwp := (tile_run d L (tq (cL L) (jL L)) (tq (cL L) (jL L)) (X d) (w d) (o d) fa fb fv fr O W) $$ [Hmw Hx0 Hx1 Hw Ho' Ha Hb Hv Hr Hs0 Hs1 Hs2 Hs3 HO]
  · isplitl [Hmw]; · iexact Hmw
    isplitl [Hx0]; · iexact Hx0
    isplitl [Hx1]; · iexact Hx1
    isplitl [Hw]; · iexact Hw
    isplitl [Ho']; · iexact Ho'
    isplitl [Ha]; · iexact Ha
    isplitl [Hb]; · iexact Hb
    isplitl [Hv]; · iexact Hv
    isplitl [Hr]; · iexact Hr
    isplitl [Hs0]; · iexact Hs0
    isplitl [Hs1]; · iexact Hs1
    isplitl [Hs2]; · iexact Hs2
    isplitl [Hs3]; · iexact Hs3
    iexact HO
  iapply (wp_wand frame _ _) $$ [Hwp]
  · iexact Hwp
  iintro %u ⟨Hx0, Hx1, Hw, Ho, Ha, Hb, Hv, Hr, Hs0, Hs1, Hs2, Hs3, HO⟩
  isplitl [Hx0 Hx1 Hxr Hw Ho]
  · isplitl [Hx0 Hx1 Hxr]
    · iapply (two_toks (F := F) _ _).2
      isplitl [Hxr]; · iexact Hxr
      isplitl [Hx0] <;> iassumption
    isplitl [Hw]; · iexact Hw
    iapply (Entails.of_eq (pts_oRowK (F := F) d L _)); iexact Ho
  isplitl [Ha Hb Hv Hr Hbufs]
  · isplitl [Ha]; · iexact Ha
    isplitl [Hb]; · iexact Hb
    isplitl [Hv]; · iexact Hv
    isplitl [Hr]; · iexact Hr
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexact HO

end Body

/-! ## The launch's obligations -/

/-- The coordinates of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          fV (Memref.isWhole_whole _) wV (Memref.isWhole_whole _) oV (Memref.isWhole_whole _)
          aV (Memref.isWhole_whole _) bV (Memref.isWhole_whole _) vV (Memref.isWhole_whole _) rV (Memref.isWhole_whole _)
          cc0_scratch4 cc0_scratch5 cc0_scoped0 cc0_scoped1) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P X w o) v₀ 0 := by
  intro d c i O W hO _ _
  simp only [show (P X w o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X w o d (coordsV ⟨_, hci.1⟩ ⟨_, hci.2⟩) hF O W hO).trans (wp_mono frame _ _ fun _ => obl_post)

/-- A core's payload splits among its subcores; what they bring back is the core's result. -/
theorem core_split (d : Dev nD) (c : Fin 2) :
    coreIn X w d c (o d) ⊢ iprop((bigSep Finset.univ fun i : Fin 16 => tileIn X w d c i (o d))
      ∗ ((bigSep Finset.univ fun i : Fin 16 => tileIn X w d c i (scOut (X d) (w d))) -∗ coreIn X w d c (scOut (X d) (w d)))) := by
  unfold coreIn tileIn
  rw [bigSep_sep', bigSep_sep', bigSep_sep', bigSep_sep']
  iintro ⟨Hx, Hw, Ho⟩
  ihave Hx' := (Transfers.pointsTo_toks_split (ℓ := fLoc d) (S := Finset.univ) (f := X d) (cq c) 16) $$ Hx
  ihave Hw' := (Transfers.pointsTo_toks_split (ℓ := wLoc d) (S := Finset.univ) (f := w d) (cq c) 16) $$ Hw
  icases Hx' with ⟨Hxr, Hx⟩
  icases Hw' with ⟨Hwr, Hw⟩
  isplitl [Hx Hw Ho]
  · isplitl [Hx]; · iexact Hx
    isplitl [Hw]; · iexact Hw
    iexact Ho
  iintro ⟨Hx, Hw, Ho⟩
  isplitl [Hx Hxr]
  · iapply (Transfers.pointsTo_toks_join (ℓ := fLoc d) (S := Finset.univ) (f := X d) (cq c) 16)
    isplitl [Hxr] <;> iassumption
  isplitl [Hw Hwr]
  · iapply (Transfers.pointsTo_toks_join (ℓ := wLoc d) (S := Finset.univ) (f := w d) (cq c) 16)
    isplitl [Hwr] <;> iassumption
  iexact Ho

theorem vecSplit : (K (F := F)).VecSplit' (P X w o) 0 := by
  intro d c
  have h := core_split X w o d (Fin.cast nCore_zero c)
  refine h.trans ?_
  iintro H; imodintro; iexact H

/-- The call's operands, from the whole buffers, and back at the result's value: every core's share at once, the rest of
    the shares kept. -/
theorem call_split (d : Dev nD) :
    iprop((fLoc d ↦{fullShare} X d) ∗ (wLoc d ↦{fullShare} w d) ∗ (oLoc d ↦{fullShare} o d))
      ⊢ iprop((bigSep Finset.univ fun c : Fin ((K (F := F)).nCore 0) => (P X w o).st 0 d c)
        ∗ ((bigSep Finset.univ fun c : Fin ((K (F := F)).nCore 0) => (P X w o).dn 0 d c)
          -∗ iprop((fLoc d ↦{fullShare} X d) ∗ (wLoc d ↦{fullShare} w d) ∗ (oLoc d ↦{fullShare} scOut (X d) (w d))))) := by
  show _ ⊢ iprop((bigSep Finset.univ fun c : Fin 2 => coreIn X w d c (o d))
    ∗ ((bigSep Finset.univ fun c : Fin 2 => coreIn X w d c (scOut (X d) (w d))) -∗ _))
  unfold coreIn
  rw [bigSep_sep', bigSep_sep', bigSep_sep', bigSep_sep', oPts_rows, oPts_rows]
  iintro ⟨Hx, Hw, Ho⟩
  ihave Hx' := (Transfers.pointsTo_toks_split (ℓ := fLoc d) (S := Finset.univ) (f := X d) fullShare 2) $$ Hx
  ihave Hw' := (Transfers.pointsTo_toks_split (ℓ := wLoc d) (S := Finset.univ) (f := w d) fullShare 2) $$ Hw
  icases Hx' with ⟨Hxr, Hx⟩
  icases Hw' with ⟨Hwr, Hw⟩
  isplitl [Hx Hw Ho]
  · isplitl [Hx]; · iexact Hx
    isplitl [Hw]; · iexact Hw
    iexact Ho
  iintro ⟨Hx, Hw, Ho⟩
  isplitl [Hx Hxr]
  · iapply (Transfers.pointsTo_toks_join (ℓ := fLoc d) (S := Finset.univ) (f := X d) fullShare 2)
    isplitl [Hxr] <;> iassumption
  isplitl [Hw Hwr]
  · iapply (Transfers.pointsTo_toks_join (ℓ := wLoc d) (S := Finset.univ) (f := w d) fullShare 2)
    isplitl [Hwr] <;> iassumption
  iexact Ho

end

end Cert.Proof.Deal

end
-- ==== Proof.Main.lean ====
/-
  @main on the TensorCore: the SparseCore call, the two regions and the reshapes between them, over every buffer the
  TensorCore names; from it the run of the whole program, with what the result holds.
-/
module

public import proofs.«01_k».proof.Proof.Region
public import proofs.«01_k».proof.Proof.Deal

@[expose] public section

noncomputable section

namespace Cert.Proof.Main

open Cert.KernelIdeal Cert.KernelIdeal.Gen Cert.Proof.Base Cert.Proof.Region Cert.Proof.Deal Cert.Proof.Lanes
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MM F

/-! ## The contents after each statement -/

abbrev dr (b : Ref sig .tc) : DevRef τ sig := Proc.devRef .tc b

abbrev opFlat : HloOp τ sig (Elt F) := StableHlo.reshape main_arg0 main_v0 (rfl : (.f32 : EltTy) = .f32) shapeCasts_S262144x128_S33554432
abbrev opRow : HloOp τ sig (Elt F) := StableHlo.reshape main_arg1 main_v2 (rfl : (.f32 : EltTy) = .f32) shapeCasts_S128_S1x128
abbrev opScalar : HloOp τ sig (Elt F) := StableHlo.reshape main_v4 main_v5 (rfl : (.f32 : EltTy) = .f32) shapeCasts_S1x1_S_

variable (m : (ℓ : Loc nD τ sig) → Buf (Elt F) ℓ)

def C0 (d : Dev nD) : Valuation τ sig (Elt F) := fun b => m (d, b)
def C1 (d : Dev nD) : Valuation τ sig (Elt F) := opFlat.result (C0 m d)
def C2 (d : Dev nD) : Valuation τ sig (Elt F) := Function.update (C1 m d) (dr main_v1) (scOut (C1 m d (dr main_v0)) (C1 m d (dr main_arg1)))
def C3 (d : Dev nD) : Valuation τ sig (Elt F) := opRow.result (C2 m d)
/-- A valuation per device, as the contents the regions are entered with. -/
abbrev vals (C : Dev nD → Valuation τ sig (Elt F)) : Vals F := fun c b => C c (dr b)
def C4 (d : Dev nD) : Valuation τ sig (Elt F) := Function.update (C3 m d) (dr main_v3) (total (vals (C3 m)) d)
def C5 (d : Dev nD) : Valuation τ sig (Elt F) := Function.update (C4 m d) (dr main_v4) (finished (vals (C4 m)) d)
def C6 (d : Dev nD) : Valuation τ sig (Elt F) := opScalar.result (C5 m d)

theorem dr_ne {a b : Ref sig .tc} (h : a ≠ b) : dr a ≠ dr b := fun e => h (Proc.devRef_injective _ e)

abbrev pay : (K (F := F)).Pay (nD := nD) (Val := Elt F) (Name := ℕ) (U := UU) :=
  P (fun d => C1 m d (dr main_v0)) (fun d => C1 m d (dr main_arg1)) (fun d => C1 m d (dr main_v1))

/-! ## The launch's ghost state -/

abbrev pinned : Fin 2 → Pipeline.Cfg sig Λ₀ := Pipeline.pin (pcfgs (F := F)) adm

theorem hinj : Function.Injective (Pipeline.cellOf (nD := nD) (τ := τ) (pinned (F := F))) := cellOf_inj

/-- What the launch deals one TensorCore: its two pipelines' cells and their tokens. -/
def G (d : Dev nD) : sProp 𝕄 :=
  iprop((bigSep Finset.univ fun p : Fin 2 => Pipeline.cellsGhost (pinned (F := F)) EP p d)
    ∗ bigSep Finset.univ fun p : Fin 2 => Pipeline.toksInit (pinned (F := F)) EP p d)

theorem G_eq (d : Dev nD) : (G d : sProp 𝕄) = iprop(
    (Pipeline.cellsGhost (pinned (F := F)) EP 0 d ∗ Pipeline.cellsGhost (pinned (F := F)) EP 1 d)
    ∗ (Pipeline.toksInit (pinned (F := F)) EP 0 d ∗ Pipeline.toksInit (pinned (F := F)) EP 1 d)) := by
  unfold G; rw [bigSep_univ_two, bigSep_univ_two]

def u₀ : UU := (initOf (K (F := F)).hsCells (K (F := F)).hsToks,
  (initOf (Pipeline.cells (pinned (F := F)) hinj) (Pipeline.launchToks (pinned (F := F)) hinj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (pay m).x q thr) := by
  unfold u₀
  iintro Hu
  ihave H := (ownU_pair (initOf (K (F := F)).hsCells (K (F := F)).hsToks)
    (initOf (Pipeline.cells (pinned (F := F)) hinj) (Pipeline.launchToks (pinned (F := F)) hinj), (1 : Counters))) $$ Hu
  icases H with ⟨HH, HR⟩
  ihave H := (own_pair_emb embR (initOf (Pipeline.cells (pinned (F := F)) hinj) (Pipeline.launchToks (pinned (F := F)) hinj)) (1 : Counters)) $$ HR
  icases H with ⟨HP, -⟩
  ihave HP := (show (BI.own (((Emb.inl : Emb UP (UP × Counters)).trans embR) (initOf (Pipeline.cells (pinned (F := F)) hinj) (Pipeline.launchToks (pinned (F := F)) hinj))) : sProp 𝕄)
    ⊢ BI.own (EP (initOf (Pipeline.cells (pinned (F := F)) hinj) (Pipeline.launchToks (pinned (F := F)) hinj))) from Entails.of_eq rfl) $$ HP
  imod (Pipeline.fund_ghost (pinned (F := F)) EP hinj) $$ HP with ⟨Hc, Ht⟩
  imodintro
  isplitl [HH]; · iexact HH
  isplitl [Hc Ht]
  · unfold G; rw [bigSep_sep']; isplitl [Hc] <;> iassumption
  rw [show (bigSep Finset.univ fun thr : Thread nD τ => bigSep Finset.univ fun q : Fin 1 => (pay m).x q thr) = bigSep Finset.univ fun _ => iprop(emp) from
    bigSep_congr fun _ _ => bigSep_univ_of_subsingleton (0 : Fin 1), bigSep_emp']
  iempintro

/-! ## The steps -/

/-- A region's call, as @main makes it beside a SparseCore. -/
theorem region_step {b : ℕ} {V₁ V₂ : Vals F} [∀ e, Nonempty (Elt F e)] (p : Fin 2) (R : Seg b V₁ V₂ p) (d : Dev nD) {Pre Post : sProp 𝕄}
    (hpre : R.pre d = Pre) (hpost : R.post d = Post) (Q : PUnit → sProp 𝕄) :
    iprop((iprop(boundary (T d) ∗ Post) -∗ Q ⟨⟩) ∗ boundary (T d) ∗ Pre ∗ levAts (K (F := F)).L (K (F := F)).lev
        ∗ Pipeline.cellsGhost (pinned (F := F)) EP p d ∗ Pipeline.toksInit (pinned (F := F)) EP p d)
      ⊢ wp frame (wpE ((K (F := F)).defs (D (F := F))) 𝒱 (T d) none) Set.univ
          (Prog.lift (.customCall (SparseCore.inner (Pipeline.entry p)) ())) Q := by
  have e : (Prog.lift (.customCall (SparseCore.inner (Pipeline.entry p)) ()) : Prog (TpuEff nD τ sig (Elt F) (SparseCore.Sig (ΛP (F := F)) 1) .tc) PUnit)
      = SparseCore.liftProg (.op (.customCall (Pipeline.entry p) ()) fun _ => .ret ⟨⟩) := rfl
  rw [e]
  subst hpre hpost
  have hv : ∀ u ∈ (none : Option 𝒱.V), 𝒱.lt (.inr ((pinned (F := F) p).tripCount + 1)) u := fun u h => absurd h (Option.not_mem_none u)
  have h1 := Pipeline.RegionSeg.wp (pcfgs (F := F)) adm (pdats b V₁ V₂) none hinj EP defs₀ 𝒱₀ (K (F := F)).L (K (F := F)).lev
    R d none hv (fun _ => .ret ⟨⟩) Q
  iintro ⟨Hk, Hb, Hp, Hl, Hc, Ht⟩
  iapply ((K (F := F)).wp_liftProg (D (F := F)) 𝒱 (T d) Set.univ none _ Q)
  iapply h1
  isplitl [Hk]
  · iintro H
    rw [wp_ret]; imodintro
    iapply Hk; iexact H
  isplitl [Hb]; · iexact Hb
  isplitl [Hp]; · iexact Hp
  isplitl [Hl]; · iexact Hl
  isplitl [Hc] <;> iassumption

abbrev UC : Finset (DevRef τ sig) := Pipeline.ucRefs τ sig

theorem held_call (d : Dev nD) (C : Valuation τ sig (Elt F)) :
    (held (T d) UC C : sProp 𝕄) = iprop(((fLoc d ↦{fullShare} C (dr main_v0)) ∗ (wLoc d ↦{fullShare} C (dr main_arg1)) ∗ (oLoc d ↦{fullShare} C (dr main_v1)))
      ∗ held (T d) (UC \ {dr main_v0, dr main_arg1, dr main_v1}) C) := by
  rw [StableHlo.held_sub_split (T d) (T := {dr main_v0, dr main_arg1, dr main_v1}) (S := UC) (by decide)]
  unfold held
  rw [SparseCore.bigSep_insert' (by decide), SparseCore.bigSep_insert' (by decide), bigSep_singleton]

theorem C2_v0 (d : Dev nD) : C2 m d (dr main_v0) = C1 m d (dr main_v0) := Function.update_of_ne (by decide) _ _
theorem C2_arg1 (d : Dev nD) : C2 m d (dr main_arg1) = C1 m d (dr main_arg1) := Function.update_of_ne (by decide) _ _
theorem C2_v1 (d : Dev nD) : C2 m d (dr main_v1) = scOut (C1 m d (dr main_v0)) (C1 m d (dr main_arg1)) := Function.update_self _ _ _

theorem held_C2 (d : Dev nD) :
    (held (T d) UC (C2 m d) : sProp 𝕄) = iprop(((fLoc d ↦{fullShare} C1 m d (dr main_v0)) ∗ (wLoc d ↦{fullShare} C1 m d (dr main_arg1))
        ∗ (oLoc d ↦{fullShare} scOut (C1 m d (dr main_v0)) (C1 m d (dr main_arg1))))
      ∗ held (T d) (UC \ {dr main_v0, dr main_arg1, dr main_v1}) (C1 m d)) := by
  rw [held_call, C2_v0, C2_arg1, C2_v1, StableHlo.held_congr (T d) (V := C2 m d) (V' := C1 m d) fun b hb => ?_]
  refine Function.update_of_ne ?_ _ _
  rintro rfl; exact absurd hb (by decide)

theorem held_launch (d : Dev nD) : (unscopedBufs d (fun b => m ((SparseCore.T d : Thread nD τ).loc b)) : sProp 𝕄) = held (T d) UC (C0 m d) :=
  (show _ = _ from rfl).trans (Pipeline.unscopedBufs_held d (C0 m d))

theorem held_vals (d : Dev nD) (C : Dev nD → Valuation τ sig (Elt F)) : (unscopedBufs d (vals C d) : sProp 𝕄) = held (T d) UC (C d) :=
  Pipeline.unscopedBufs_held d (C d)

variable (ρ : Dev nD → PrngReg)

abbrev FIN (d : Dev nD) : sProp 𝕄 := held (T d) UC (C6 m d)

theorem sub_flat : (opFlat (F := F)).bufs ⊆ UC := show ({dr main_arg0, dr main_v0} : Finset (DevRef τ sig)) ⊆ UC by decide
theorem sub_row : (opRow (F := F)).bufs ⊆ UC := show ({dr main_arg1, dr main_v2} : Finset (DevRef τ sig)) ⊆ UC by decide
theorem sub_scalar : (opScalar (F := F)).bufs ⊆ UC := show ({dr main_v4, dr main_v5} : Finset (DevRef τ sig)) ⊆ UC by decide

theorem owes_end (d : Dev nD) (W : Waits sig (HIx 1)) :
    (owes (T d) ((K (F := F)).Otc d (((0 : Fin 1) : ℕ) + 1)) W : sProp 𝕄) = owes (d.tc : Thread nD τ) (0 : CellTallies nD τ sig (HIx 1)) W := by
  rw [(K (F := F)).Otc_end d (by decide)]

theorem hmain [∀ e, Nonempty (Elt F e)] (κ : GSem nD τ sig → ℕ) (d : Dev nD) :
    iprop((K (F := F)).ctx EH (pay m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [held_launch]
  simp only [main, wp_bind, wp_pure]
  iintro ⟨#Hctx, Hst, ⟨Hb, Hh, Hts, -⟩, HG⟩
  -- the operand, flat
  iapply (wp_hlo_within 𝒱 (T d) none Set.univ (op := opFlat) (S := UC) sub_flat (V := C0 m d)) $$ [Hb Hh]
  · isplitl [Hb] <;> iassumption
  iintro ⟨Hb, Hh⟩
  rw [wp_ret]; imodintro
  ihave Hh := (Entails.of_eq ((show held (T d) UC (opFlat.result (C0 m d)) = held (T d) UC (C1 m d) from rfl).trans (held_call (F := F) d (C1 m d)))) $$ Hh
  icases Hh with ⟨Hops, Hrest⟩
  ihave Hs := (call_split (fun d => C1 m d (dr main_v0)) (fun d => C1 m d (dr main_arg1)) (fun d => C1 m d (dr main_v1)) d) $$ Hops
  icases Hs with ⟨Hgive, Hback⟩
  -- the SparseCore call
  iapply ((K (F := F)).wp_run (D (F := F)) 𝒱 (EH := EH) (P := pay m) κ d 0)
  isplitr; · iexact Hctx
  isplitl [Hst]; · iexact Hst
  isplitl [Hgive]; · iexact Hgive
  iintro ⟨Hst, Hdn⟩
  ihave Hops := Hback $$ Hdn
  ihave Hh := (Entails.of_eq (held_C2 m d).symm) $$ [Hops Hrest]
  · isplitl [Hops] <;> iassumption
  -- the weights, as a row
  iapply (wp_hlo_within 𝒱 (T d) none Set.univ (op := opRow) (S := UC) sub_row (V := C2 m d)) $$ [Hb Hh]
  · isplitl [Hb] <;> iassumption
  iintro ⟨Hb, Hh⟩
  rw [wp_ret]; imodintro
  unfold SparseCore.Cfg.tcSt
  icases Hst with ⟨⟨%W, %hW, HO⟩, Hst⟩
  ihave HO := (Entails.of_eq (owes_end (F := F) d W)) $$ HO
  ihave Hlev := (SparseCore.Cfg.ctx_levAts κ) $$ Hctx
  ihave HG := (Entails.of_eq (G_eq (F := F) d)) $$ HG
  icases HG with ⟨⟨Hg0, Hg1⟩, ⟨Ht0, Ht1⟩⟩
  -- the streaming sum
  iapply (region_step 0 (reg0 8 (vals (C3 m)) (vals (C4 m)) (fun c => Function.update_self _ _ _) fun c r h => Function.update_of_ne (dr_ne h) _ _) d (Pre := St 8 (vals (C3 m)) d) (Post := St 8 (vals (C4 m)) d) rfl rfl)
  isplitr [Hb Hh HO Hg0 Ht0]; rotate_left
  · isplitl [Hb]; · iexact Hb
    isplitl [Hh HO]
    · unfold St
      isplitl [Hh]; · iapply (Entails.of_eq (held_vals d (C3 m)).symm); iexact Hh
      iexists W; isplitr; · ipureintro; exact hW
      iexact HO
    isplitr; · iexact Hlev
    isplitl [Hg0] <;> iassumption
  iintro ⟨Hb, HS⟩
  -- the final sum
  iapply (region_step 1 (reg1 8 (vals (C3 m)) (vals (C4 m)) (vals (C5 m)) (fun c => Function.update_self _ _ _) fun c r h => Function.update_of_ne (dr_ne h) _ _) d (Pre := St 8 (vals (C4 m)) d) (Post := St 8 (vals (C5 m)) d) rfl rfl)
  isplitr [Hb HS Hg1 Ht1]; rotate_left
  · isplitl [Hb]; · iexact Hb
    isplitl [HS]; · iexact HS
    isplitr; · iexact Hlev
    isplitl [Hg1] <;> iassumption
  iintro ⟨Hb, HS⟩
  unfold St
  icases HS with ⟨Hub, %W', %hW', HO⟩
  ihave Hh := (Entails.of_eq (held_vals d (C5 m))) $$ Hub
  -- the scalar
  iapply (wp_hlo_within 𝒱 (T d) none Set.univ (op := opScalar) (S := UC) sub_scalar (V := C5 m d)) $$ [Hb Hh]
  · isplitl [Hb] <;> iassumption
  iintro ⟨Hb, Hh⟩
  rw [wp_ret]; imodintro; imodintro
  isplitl [HO Hst]
  · isplitl [HO]
    · iexists W'; isplitr; · ipureintro; exact hW'
      iapply (Entails.of_eq (owes_end (F := F) d W').symm); iexact HO
    iexact Hst
  isplitl [Hh]; · iexact Hh
  isplitl [Hb] <;> iassumption

/-! ## The run -/

/-- What the program leaves: its operands as they were, its result at `C6`. -/
def fq (d : Dev nD) (s' : Phys nD τ sig (Elt F)) : Prop :=
  s'.mem.mem (d, dr main_arg0) = C6 m d (dr main_arg0) ∧ s'.mem.mem (d, dr main_arg1) = C6 m d (dr main_arg1) ∧ s'.mem.mem (d, dr main_v5) = C6 m d (dr main_v5)

theorem held_agree (d : Dev nD) (b : DevRef τ sig) (hb : b ∈ UC) (C : Valuation τ sig (Elt F)) (s' : Phys nD τ sig (Elt F)) :
    iprop(held (T d) UC C ∗ SI s') ⊢ (⌜s'.mem.mem (d, b) = C b⌝ : sProp 𝕄) := by
  iintro ⟨Hh, HSI⟩
  ihave Hx := (show (held (T d) UC C : sProp 𝕄) ⊢ ((d, b) ↦{fullShare} C b) from bigSep_elim (Φ := fun b => ((d, b) ↦{fullShare} C b : sProp 𝕄)) hb) $$ Hh
  ihave H := (SI_pointsTo_agree (st := s') (ℓ := (d, b)) (I := Finset.univ) (q := fullShare) (f := C b)) $$ [HSI Hx]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  iintro H
  ihave H := (persistent_entails_right (held_agree d (dr main_arg0) (by decide) (C6 m d) s')) $$ H
  icases H with ⟨%h0, H⟩
  ihave H := (persistent_entails_right (held_agree d (dr main_arg1) (by decide) (C6 m d) s')) $$ H
  icases H with ⟨%h1, H⟩
  ihave H := (held_agree d (dr main_v5) (by decide) (C6 m d) s') $$ H
  icases H with %h2
  ipureintro; exact ⟨h0, h1, h2⟩

theorem run_main [∀ e, Nonempty (Elt F e)] :
    θ_run (Cert.KernelIdeal.defs (F := F)) (Cert.KernelIdeal.threads (F := F)) ⟨m, fun _ => 0, ρ⟩
      (fun r => (∀ d : Dev nD, r.2.mem (d, dr main_arg0) = C6 m d (dr main_arg0) ∧ r.2.mem (d, dr main_arg1) = C6 m d (dr main_arg1)
        ∧ r.2.mem (d, dr main_v5) = C6 m d (dr main_v5)) ∧ r.2.sem = fun _ => 0) :=
  SparseCore.Cfg.θ_run_sc_quiescent (K := K (F := F)) (D := D (F := F)) (𝒱 := 𝒱) (EH := EH) (P := pay m) (A := ∅) facts v₀
    (fun q hq => match q with | 0 => nomatch hq)
    (fun q _ => match q with | 0 => tileObl _ _ _ facts)
    (fun q _ => match q with | 0 => SparseCore.Cfg.VecSplit.of_plain (vecSplit _ _ _))
    m ρ main G (FIN m) (u₀ (F := F)) (sep_elim_left.trans (hu₀ m)) (hmain m ρ) (fq m) (hfin m) _ (fun _ h hz => ⟨h, hz⟩)

end Cert.Proof.Main

end
-- ==== Proof.Frames.lean ====
/-
  The frames: each program runs, leaves its operands as they were, and ends with every semaphore at zero.
-/
module

public import proofs.«01_k».proof.Defs
public import proofs.«01_k».proof.Proof.Main
public import proofs.«01_k».proof.Proof.Gen.Kernel
public import proofs.«01_k».proof.Proof.Gen.ReferenceIdeal.Run
public import proofs.«01_k».proof.Proof.Gen.Pre_uniform_weights
public import Idealize.ShloMosaic.Lib.QuiescentFlight

@[expose] public section

noncomputable section

namespace Cert.Proof.Frames

open Cert.KernelIdeal Cert.KernelIdeal.Gen Cert.Proof.Main
open Idealize.ShloMosaic Idealize.ShloMosaic.TcCoe Idealize.SL.Sem

variable {F : FTy → Type} [FloatOps F] (m : (ℓ : Loc nD τ sig) → Buf (Elt F) ℓ)

/-- A buffer no statement writes ends at its launch contents. -/
theorem kept (d : Dev nD) (b : DevRef τ sig) (hb : b ∉ ({dr main_v0, dr main_v1, dr main_v2, dr main_v3, dr main_v4, dr main_v5} : Finset (DevRef τ sig))) :
    C6 m d b = m (d, b) := by
  simp only [Finset.mem_insert, Finset.mem_singleton, not_or] at hb
  obtain ⟨h0, h1, h2, h3, h4, h5⟩ := hb
  unfold C6
  rw [opScalar.result_of_not_mem _ (show b ∉ ({dr main_v5} : Finset (DevRef τ sig)) by simpa using h5)]
  refine (Function.update_of_ne h4 _ _).trans ((Function.update_of_ne h3 _ _).trans ?_)
  unfold C3
  rw [opRow.result_of_not_mem _ (show b ∉ ({dr main_v2} : Finset (DevRef τ sig)) by simpa using h2)]
  refine (Function.update_of_ne h1 _ _).trans ?_
  unfold C1
  rw [opFlat.result_of_not_mem _ (show b ∉ ({dr main_v0} : Finset (DevRef τ sig)) by simpa using h0)]
  rfl

/-- The kernel's run: its operands kept, its result at `C6`, every semaphore at zero. -/
theorem run [∀ e, Nonempty (Elt F e)] (ρ : Dev nD → PrngReg) :
    θ_run (Cert.KernelIdeal.defs (F := F)) (Cert.KernelIdeal.threads (F := F)) ⟨m, fun _ => 0, ρ⟩
      (fun r => (∀ c : Dev nD, r.2.mem ((c.tc : Thread nD τ).loc main_v5) = C6 m c (dr main_v5)
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run (Cert.KernelIdeal.defs (F := F)) _ _).mono (fun _ h => ⟨fun c => ⟨(h.1 c).2.2, (h.1 c).1.trans (kept m c _ (by decide)), (h.1 c).2.1.trans (kept m c _ (by decide))⟩, h.2⟩)
    (run_main m ρ)

/-- The program and its idealised text are one program at every reading of the floats. -/
theorem same_run (ρ : Dev nD → PrngReg) :
    θ_run (Cert.Kernel.defs (F := F)) (Cert.Kernel.threads (F := F)) ⟨m, fun _ => 0, ρ⟩
      = θ_run (Cert.KernelIdeal.defs (F := F)) (Cert.KernelIdeal.threads (F := F)) ⟨m, fun _ => 0, ρ⟩ := by
  sl_kernel_rfl

theorem frame_kernel : Cert.quiescent_Kernel := fun m ρ _ => by
  rw [same_run (F := Bits) m ρ]
  exact (θ_run Cert.KernelIdeal.defs _ _).mono (fun _ h => ⟨fun c => (h.1 c).2, h.2⟩) (run (F := Bits) m ρ)

theorem frame_ideal : Cert.quiescent_KernelIdeal := fun m ρ _ =>
  (θ_run Cert.KernelIdeal.defs _ _).mono (fun _ h => ⟨fun c => (h.1 c).2, h.2⟩) (run (F := Ideal) m ρ)

theorem frame_ideal_pre : Cert.quiescent_KernelIdeal_pre_uniform_weights := fun m ρ _ => frame_ideal m ρ trivial

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_uniform_weights := fun m ρ _ => frame_reference m ρ trivial

end Cert.Proof.Frames

end
-- ==== Proof.Sums.lean ====
/-
  Rearranging finite sums: the orders in which the kernel's two halves visit the words of their part of the array,
  against the order of the words themselves.
-/
module

public import Mathlib.Data.EReal.Operations
public import Mathlib.Algebra.BigOperators.Intervals
public import Mathlib.Algebra.BigOperators.Fin

@[expose] public section

namespace Cert.Proof.Sums

open Finset

variable {M : Type*} [AddCommMonoid M]

/-- `a` blocks of `b` words are `a * b` words. -/
theorem blocks (a b : ℕ) (g : ℕ → M) : ∑ i ∈ range a, ∑ j ∈ range b, g (b * i + j) = ∑ e ∈ range (a * b), g e := by
  induction a with
  | zero => simp
  | succ a ih => rw [sum_range_succ, ih, Nat.succ_mul, sum_range_add, Nat.mul_comm b a]

/-- The same behind an offset. -/
theorem blocks_from (o a b n : ℕ) (h : a * b = n) (g : ℕ → M) : ∑ i ∈ range a, ∑ j ∈ range b, g (o + (b * i + j)) = ∑ e ∈ range n, g (o + e) :=
  (blocks a b fun e => g (o + e)).trans (by rw [h])

/-- A worker's words, visited lane by lane, accumulator by accumulator, then chunk, trip and row. -/
theorem worker (b : ℕ) (g : ℕ → M) :
    ∑ l ∈ range 16, ∑ k ∈ range 8, ∑ r ∈ range 17, ∑ t ∈ range 64, ∑ q ∈ range 4, g (b + 32768 * r + (512 * t + 128 * q + 16 * k + l))
      = ∑ e ∈ range 557056, g (b + e) := by
  rw [sum_comm_cycle, ← blocks_from b 17 32768 557056 rfl g]
  refine sum_congr rfl fun r _ => ?_
  rw [sum_comm_cycle, ← blocks 64 512 fun e => g (b + (32768 * r + e))]
  refine sum_congr rfl fun t _ => ?_
  rw [sum_comm_cycle, ← blocks 4 128 fun e => g (b + (32768 * r + (512 * t + e)))]
  refine sum_congr rfl fun q _ => ?_
  rw [sum_comm, ← blocks 8 16 fun e => g (b + (32768 * r + (512 * t + (128 * q + e))))]
  refine sum_congr rfl fun k _ => sum_congr rfl fun l _ => congrArg g ?_
  omega

/-- The words of 15 blocks of 8192 rows, visited by their place in a group of eight rows, then by block and group. -/
theorem groups (o : ℕ) (g : ℕ → M) :
    ∑ s ∈ range 8, ∑ j ∈ range 128, ∑ i ∈ range 15, ∑ a ∈ range 1024, g (o + (1048576 * i + (1024 * a + (128 * s + j))))
      = ∑ e ∈ range 15728640, g (o + e) := by
  rw [sum_comm_cycle, ← blocks_from o 15 1048576 15728640 rfl g]
  refine sum_congr rfl fun i _ => ?_
  rw [sum_comm_cycle, ← blocks 1024 1024 fun e => g (o + (1048576 * i + e))]
  refine sum_congr rfl fun a _ => ?_
  rw [← blocks 8 128 fun e => g (o + (1048576 * i + (1024 * a + e)))]

/-- A finite factor that is not negative comes out of a sum of extended reals. -/
theorem scale {ι : Type*} (s : Finset ι) (f : ι → EReal) {c : EReal} (h0 : 0 ≤ c) (ht : c ≠ ⊤) : ∑ i ∈ s, c * f i = c * ∑ i ∈ s, f i := by
  classical
  induction s using Finset.induction_on with
  | empty => simp
  | insert a s ha ih => rw [sum_insert ha, sum_insert ha, ih, EReal.left_distrib_of_nonneg_of_ne_top h0 ht]

end Cert.Proof.Sums
-- ==== Proof.Worker.lean ====
/-
  The SparseCores' half over the extended reals: with every weight one number `c`, finite and not negative, the words
  the 32 workers write sum to `c` times the sum of the first 17825792 words of the flattened `x`.
-/
module

public import proofs.«01_k».proof.Proof.Lanes
public import proofs.«01_k».proof.Proof.Sums
public import Idealize.ShloMosaic.Lib.ValueIdxRank1
public import Idealize.ShloMosaic.PureOps.Ideal.Laws

@[expose] public section

noncomputable section

namespace Cert.Proof.Worker

open Cert.KernelIdeal Cert.KernelIdeal.Gen Cert.Proof.Lanes Cert.Proof.Sums
open Idealize.ShloMosaic Idealize.ShloMosaic.ValueIdx Finset

theorem zeros_apply (j : S16.Idx) : zeros (F := Ideal) j = (0 : EReal) := Ideal.ofBits_zero_f32

/-- An accumulator's trips: what it had, and every word it read. -/
theorem runAcc_apply (X : S32768.Idx → EReal) (k : Fin 8) (a : S16.Idx → EReal) (j : S16.Idx) (t : ℕ) :
    runAcc (F := Ideal) X k a t j = a j + ∑ s ∈ range t, ∑ q ∈ range 4, X (at1 32768 (512 * s + 128 * q + 16 * k.val + (j 0).val)) := by
  induction t with
  | zero => simp [runAcc]
  | succ t ih =>
    rw [sum_range_succ, ← add_assoc, ← ih]
    simp only [sum_range_succ, range_zero, sum_empty, zero_add, ← add_assoc]
    rfl

variable (x : S33554432.Idx → EReal)

/-- Word `e` of the flattened array. -/
abbrev word (e : ℕ) : EReal := x (at1 33554432 e)

/-- An accumulator after `r` chunks. -/
theorem chunkAcc_apply (b : ℕ) (k : Fin 8) (j : S16.Idx) (r : ℕ) :
    chunkAcc (F := Ideal) x b k r j
      = ∑ i ∈ range r, ∑ t ∈ range 64, ∑ q ∈ range 4, word x (b + 32768 * i + (512 * t + 128 * q + 16 * k.val + (j 0).val)) := by
  induction r with
  | zero => exact (zeros_apply j).trans (sum_range_zero _).symm
  | succ r ih =>
    rw [sum_range_succ, ← ih]
    refine (runAcc_apply _ k _ j 64).trans (congrArg (chunkAcc (F := Ideal) x b k r j + ·) ?_)
    refine sum_congr rfl fun t ht => sum_congr rfl fun q hq => ?_
    have h1 := mem_range.1 ht
    have h2 := mem_range.1 hq
    have h3 : (j 0).val < 16 := (j 0).isLt
    have h4 := k.isLt
    show x (at1 33554432 (b + 32768 * r + (at1 32768 (512 * t + 128 * q + 16 * k.val + (j 0).val) 0).val)) = _
    rw [at1_val 32768 (by omega)]

variable (w : S128.Idx → EReal) {c : EReal}

/-- Accumulators times equal weights, summed. -/
theorem weigh_apply (hw : ∀ i, w i = c) (h0 : 0 ≤ c) (ht : c ≠ ⊤) (A : Fin 8 → S16.Idx → EReal) (j : S16.Idx) :
    weigh (F := Ideal) w A j = c * ∑ k : Fin 8, A k j := by
  have hl : ∀ o, lane w o j = c := fun o => hw _
  rw [← scale _ _ h0 ht, Fin.sum_univ_eight]
  show zeros (F := Ideal) j + A 0 j * lane w 0 j + A 1 j * lane w 16 j + A 2 j * lane w 32 j + A 3 j * lane w 48 j + A 4 j * lane w 64 j + A 5 j * lane w 80 j
    + A 6 j * lane w 96 j + A 7 j * lane w 112 j = _
  simp only [hl, zeros_apply, zero_add, mul_comm]

/-- The words one worker writes, summed. -/
theorem row_sum (hw : ∀ i, w i = c) (h0 : 0 ≤ c) (ht : c ≠ ⊤) (p : ℕ) :
    ∑ l : Fin 16, row (F := Ideal) x w p (at1 16 l.val) = c * ∑ e ∈ range 557056, word x (557056 * p + e) := by
  rw [← worker, ← scale _ _ h0 ht, sum_range]
  refine sum_congr rfl fun l _ => ?_
  refine (weigh_apply w hw h0 ht _ _).trans (congrArg (c * ·) ?_)
  rw [sum_range]
  refine sum_congr rfl fun k _ => ?_
  rw [chunkAcc_apply, at1_val 16 l.isLt]

/-- The SparseCores' result, summed. -/
theorem scOut_sum (hw : ∀ i, w i = c) (h0 : 0 ≤ c) (ht : c ≠ ⊤) :
    ∑ j : S32x16.Idx, scOut (F := Ideal) x w j = c * ∑ e ∈ range 17825792, word x e := by
  rw [← blocks 32 557056, ← scale _ _ h0 ht, sum_range, sum_idx2]
  exact sum_congr rfl fun p _ => row_sum x w hw h0 ht p.val

end Cert.Proof.Worker

end
-- ==== Proof.Rows.lean ====
/-
  The TensorCore's half over the extended reals: with every weight one number `c`, finite and not negative, the 8 x 128
  partial result sums to `c` times the sum of the last 15728640 words of the flattened `x`.
-/
module

public import proofs.«01_k».proof.Proof.Worker
public import proofs.«01_k».proof.Proof.Region
public import Idealize.ShloMosaic.Lib.Pointwise
public import Idealize.ShloMosaic.Lib.Pipeline.ValueKit

@[expose] public section

noncomputable section

namespace Cert.Proof.Rows

open Cert.KernelIdeal Cert.KernelIdeal.Gen Cert.Proof.Lanes Cert.Proof.Sums Cert.Proof.Worker Cert.Proof.Region Cert.Proof.Blocks
open Idealize.ShloMosaic Idealize.ShloMosaic.TcCoe Finset

/-- The flattened array at a word is the array at its row and column. -/
theorem flat_word (x : S262144x128.Idx → EReal) (h : S262144x128.ShapeCasts S33554432) (r : Fin 262144) (j : Fin 128) :
    word (shapeCast S33554432 x h) (128 * r.val + j.val) = x (ix2 r j) := by
  have hr := r.isLt
  have hj := j.isLt
  refine congrArg x (Shape.reshapeEquiv_eq_of_vals h _ _ (r.val * 128 + j.val) (128 * r.val + j.val) (rowMajor_val2 _ 128 rfl) ?_ (by omega))
  exact (rowMajor_val1 _).trans (at1_val 33554432 (by omega))

theorem index0 : ∀ t : Fin grid1.N, win1_0.index t = ![t.val + 17, 0] := by decide +kernel

variable (V : Vals Ideal) (d : Dev nD)

/-- Entry `(a, j)` of block `t` of rows. -/
theorem xblk_apply (t : Fin cfg1.N) (a : Fin 8192) (j : Fin 128) (r : Fin 262144) (hr : r.val = 8192 * (t.val + 17) + a.val) :
    xblk V d t (ix2 a j) = V d main_arg0 (ix2 r j) := by
  have e := index0 t
  refine congrArg (V d main_arg0) ?_
  funext i
  apply Fin.ext
  match i with
  | ⟨0, _⟩ =>
    show win1_0.index t 0 * 8192 + 1 * a.val = r.val
    rw [e, hr]
    show (t.val + 17) * 8192 + 1 * a.val = _
    omega
  | ⟨1, _⟩ =>
    show win1_0.index t 1 * 128 + 1 * j.val = j.val
    rw [e]
    show 0 * 128 + 1 * j.val = _
    omega

/-- Equal weights are equal in every block. -/
theorem wblk_apply {c : EReal} (hw : ∀ i, V d main_v2 i = c) (t : Fin cfg1.N) (i : S1x128.Idx) : wblk V d t i = c :=
  hw (((cfg1.win 1).blk t).view.emb i)

theorem pay1_apply (i : S8x128.Idx) : k1_pay1 (F := Ideal) i = (0 : EReal) := Ideal.ofBits_zero_f32

/-- What a block adds to the accumulator at `(s, j)`. -/
theorem pay2_apply (A : S8x128.Idx → EReal) (x : S8192x128.Idx → EReal) (s : Fin 8) (j : Fin 128) :
    k1_pay2 (F := Ideal) A x (ix2 s j) = A (ix2 s j) + ∑ a : Fin 1024, x (ix2 ⟨8 * a.val + s.val, by omega⟩ j) := by
  unfold k1_pay2
  rw [shapeCast_self]
  refine congrArg (A (ix2 s j) + ·) ((Ideal.reduceAdd_r3_a0 _ _ _).trans ?_)
  refine sum_congr rfl fun a _ => congrArg x ?_
  refine Shape.reshapeEquiv_eq_of_vals _ _ _ ((8 * a.val + s.val) * 128 + j.val) (a.val * 1024 + s.val * 128 + j.val) (rowMajor_val2 _ 128 rfl) ?_ (by omega)
  exact rowMajor_val3 _ 1024 128 rfl rfl

theorem pay3_apply (A : S8x128.Idx → EReal) (w : S1x128.Idx → EReal) {c : EReal} (hw : ∀ i, w i = c) (i : S8x128.Idx) :
    k1_pay3 (F := Ideal) A w i = A i * c := by
  unfold k1_pay3
  simp only [shapeCast_self]
  exact congrArg (A i * ·) (hw _)

variable (x : S262144x128.Idx → EReal) (h : S262144x128.ShapeCasts S33554432)

/-- What block `t` adds at `(s, j)`, as words of the flattened array. -/
theorem block_words (hx : V d main_arg0 = x) (t : Fin cfg1.N) (s : Fin 8) (j : Fin 128) :
    ∑ a : Fin 1024, xblk V d t (ix2 ⟨8 * a.val + s.val, by omega⟩ j)
      = ∑ a ∈ range 1024, word (shapeCast S33554432 x h) (17825792 + (1048576 * t.val + (1024 * a + (128 * s.val + j.val)))) := by
  have ht : t.val < 15 := t.isLt
  have hs := s.isLt
  rw [sum_range]
  refine sum_congr rfl fun a _ => ?_
  have ha := a.isLt
  rw [xblk_apply V d t _ j ⟨8192 * (t.val + 17) + (8 * a.val + s.val), by omega⟩ rfl, hx, ← flat_word x h]
  refine congrArg _ ?_
  show 128 * (8192 * (t.val + 17) + (8 * a.val + s.val)) + j.val = _
  omega

/-- The accumulator before the last point. -/
theorem accAt_apply (hx : V d main_arg0 = x) (s : Fin 8) (j : Fin 128) : ∀ (n : ℕ) (hn : n < cfg1.N), n < 14 →
    accAt V d n hn (ix2 s j)
      = ∑ i ∈ range (n + 1), ∑ a ∈ range 1024, word (shapeCast S33554432 x h) (17825792 + (1048576 * i + (1024 * a + (128 * s.val + j.val))))
  | 0, hn, _ => by
    unfold accAt step
    simp only [if_true, Nat.reduceEqDiff, if_false]
    rw [pay2_apply, pay1_apply, block_words V d x h hx]
    simp
  | n + 1, hn, h14 => by
    unfold accAt step
    simp only [Nat.succ_ne_zero, if_neg (show ¬(n + 1 = 14) by omega), if_false]
    rw [pay2_apply, block_words V d x h hx, accAt_apply hx s j n _ (by omega), sum_range_succ _ (n + 1)]

variable {c : EReal}

/-- The partial result at `(s, j)`. -/
theorem total_apply (hx : V d main_arg0 = x) (hw : ∀ i, V d main_v2 i = c) (s : Fin 8) (j : Fin 128) :
    total V d (ix2 s j)
      = c * ∑ i ∈ range 15, ∑ a ∈ range 1024, word (shapeCast S33554432 x h) (17825792 + (1048576 * i + (1024 * a + (128 * s.val + j.val)))) := by
  unfold total accAt step
  simp only [Nat.reduceAdd, if_true, Nat.reduceEqDiff, if_false]
  refine (pay3_apply _ (wblk V d _) (wblk_apply V d hw _) _).trans ?_
  rw [pay2_apply, block_words V d x h hx, accAt_apply V d x h hx s j 13 _ (by omega), sum_range_succ _ 14, mul_comm]

/-- The partial result, summed. -/
theorem total_sum (hx : V d main_arg0 = x) (hw : ∀ i, V d main_v2 i = c) (h0 : 0 ≤ c) (ht : c ≠ ⊤) :
    ∑ i : S8x128.Idx, total V d i = c * ∑ e ∈ range 15728640, word (shapeCast S33554432 x h) (17825792 + e) := by
  rw [sum_idx2, ← groups 17825792 (word (shapeCast S33554432 x h)), ← scale _ _ h0 ht, sum_range]
  refine sum_congr rfl fun s _ => ?_
  rw [← scale _ _ h0 ht, sum_range]
  exact sum_congr rfl fun j _ => total_apply V d x h hx hw s j

end Cert.Proof.Rows

end
-- ==== Proof.Ordered.lean ====
/-
  The reference over the extended reals, and what its precondition says: with every weight one number `c`, finite and
  not negative, the weighed sum of the sorted rows is `c` times the sum of the array, since sorting permutes each row.
-/
module

public import proofs.«01_k».proof.Proof.Sums
public import proofs.«01_k».proof.Pre_uniform_weights
public import proofs.«01_k».proof.Proof.Gen.ReferenceIdeal.Read
public import Idealize.ShloMosaic.Lib.SortFacts
public import Idealize.ShloMosaic.Lib.ReduceAll
public import Idealize.ShloMosaic.Lib.Affine
public import Idealize.ShloMosaic.Lib.Pointwise

@[expose] public section

noncomputable section

namespace Cert.Proof.Ordered

open Cert.ReferenceIdeal Cert.ReferenceIdeal.Gen Cert.ReferenceIdeal.Read Cert.Proof.Sums
open Idealize.ShloMosaic Finset

section
variable {n m : ℕ}

theorem along_row (r : Fin n) (b k : Fin m) : Shape.Idx.along (s := ⟨2, ![n, m]⟩) (ix2 r b) 1 k = ix2 r k := by
  funext a
  match a with
  | 0 => rfl
  | 1 => rfl

/-- A row of a sorted array: the row read in the order the comparator puts it in. -/
theorem sort_apply (cmp : EReal → EReal → BitVec 1) (x : (⟨2, ![n, m]⟩ : Shape).Idx → EReal) (r : Fin n) (b : Fin m) :
    Host.sort ⟨2, ![n, m]⟩ 1 cmp x (ix2 r b)
      = x (ix2 r (sortedFrom (fun k k' : Fin m => cmp (x (ix2 r k)) (x (ix2 r k')) == 1#1) b)) := by
  have h (k : Fin m) : Shape.Idx.along (s := ⟨2, ![n, m]⟩) (ix2 r b) 1 k = ix2 r k := along_row r b k
  have e : (fun k k' : Fin m => cmp (x (Shape.Idx.along (s := ⟨2, ![n, m]⟩) (ix2 r b) 1 k)) (x (Shape.Idx.along (s := ⟨2, ![n, m]⟩) (ix2 r b) 1 k')) == 1#1)
      = fun k k' => cmp (x (ix2 r k)) (x (ix2 r k')) == 1#1 := by simp only [h]
  rw [← e]
  exact Eq.trans rfl (congrArg x (h _))

theorem reverse_apply (y : (⟨2, ![n, m]⟩ : Shape).Idx → EReal) (r : Fin n) (b : Fin m) : Host.reverse [1] y (ix2 r b) = y (ix2 r b.rev) := by
  refine congrArg y ?_
  funext a
  match a with
  | 0 => rfl
  | 1 => rfl

/-- Sorting the rows and turning them round leaves the sum of the array. -/
theorem ordered_sum (cmp : EReal → EReal → BitVec 1) (x : (⟨2, ![n, m]⟩ : Shape).Idx → EReal) :
    ∑ i, Host.reverse [1] (Host.sort ⟨2, ![n, m]⟩ 1 cmp x) i = ∑ i, x i := by
  rw [sum_idx2, sum_idx2]
  refine sum_congr rfl fun r _ => ?_
  refine (sum_congr rfl fun b _ => (reverse_apply _ r b).trans (sort_apply cmp x r b.rev)).trans ?_
  exact (Function.Bijective.comp ⟨sortedFrom_injective _, sortedFrom_surjective _⟩ Fin.rev_bijective).sum_comp fun b => x (ix2 r b)

end

variable (x : S262144x128.Idx → EReal) (w : S128.Idx → EReal)

/-- The reference's result. -/
theorem reference_sum {c : EReal} (hw : ∀ i, w i = c) (h0 : 0 ≤ c) (ht : c ≠ ⊤) (i : S_.Idx) :
    val_main_v5 (F := Ideal) x w i = c * ∑ j : S262144x128.Idx, x j := by
  rw [val_main_v5_apply, ← ordered_sum (comparator_f32_d1 (F := Ideal)) x, ← scale _ _ h0 ht]
  refine (congrArg (· + _) (show val_main_cst (F := Ideal) (Shape.Idx.first h_S_) = (0 : EReal) from Ideal.ofBits_zero_f32)).trans ((zero_add _).trans ?_)
  refine sum_congr rfl fun j _ => ?_
  rw [val_main_v4_apply, val_main_v3_apply, val_main_v2_apply, hw]
  rfl

theorem top_f32 : Ideal.ofBits .f32 0x7F800000#32 = ⊤ := by simp [Ideal.ofBits, Ideal.ieee]

/-- A truth value that is one is true. -/
theorem of_bit {p : Prop} [Decidable p] (h : BitVec.ofBool (decide p) = 1#1) : p := by
  by_contra hp
  simp [hp] at h

/-- What the precondition says of the weights. -/
theorem uniform [Cert.Pre_uniform_weights.Facts] (h : Cert.Pre_uniform_weights.fn (F := Ideal) x w = fun _ => 1#1) :
    ∃ c : EReal, (∀ i, w i = c) ∧ 0 ≤ c ∧ c ≠ ⊤ := by
  haveI : Subsingleton Cert.Pre_uniform_weights.S_.Idx := ⟨fun a b => funext fun k => k.elim0⟩
  have key := fun i => Host.reduce_andi_all _ _ _ _ _ (congrFun h (fun k => k.elim0)) i
  have one (y : Cert.Pre_uniform_weights.S_.Idx → EReal) (i : S128.Idx) :
      broadcastInDim Cert.Pre_uniform_weights.S128 ![] Cert.Pre_uniform_weights.Facts.bcast_S_S128 y i = y (fun k => k.elim0) :=
    congrArg y (Subsingleton.elim _ _)
  have all (i : S128.Idx) := (IntOp.andi_eq_one.1 (key i)).imp_left IntOp.andi_eq_one.1
  obtain ⟨i₀⟩ : Nonempty S128.Idx := ⟨ix1 (0 : Fin 128)⟩
  refine ⟨_, fun i => (of_bit (all i).1.1).trans (one _ i), ?_, ?_⟩
  · have h0 := of_bit (all i₀).1.2
    rw [one] at h0
    exact (Ideal.ofBits_zero_f32.symm.trans_le h0).trans_eq ((of_bit (all i₀).1.1).trans (one _ i₀))
  · have h1 := of_bit (all i₀).2
    rw [one] at h1
    exact fun hc => ne_of_lt (lt_of_lt_of_eq h1 top_f32) (((of_bit (all i₀).1.1).trans (one _ i₀)).trans hc)

end Cert.Proof.Ordered

end
-- ==== Proof.Result.lean ====
/-
  The kernel's result over the extended reals, and the claim that it is the reference's.
-/
module

public import proofs.«01_k».proof.Proof.Frames
public import proofs.«01_k».proof.Proof.Rows
public import proofs.«01_k».proof.Proof.Ordered

@[expose] public section

noncomputable section

namespace Cert.Proof.Result

open Cert.KernelIdeal Cert.KernelIdeal.Gen Cert.Proof.Lanes Cert.Proof.Sums Cert.Proof.Worker Cert.Proof.Rows Cert.Proof.Region Cert.Proof.Main
open Idealize.ShloMosaic Idealize.ShloMosaic.TcCoe Idealize.SL.Sem Finset

/-- A reshape keeps the sum. -/
theorem reshape_sum {s t : Shape} (x : s.Idx → EReal) (h : s.ShapeCasts t) : ∑ i, shapeCast t x h i = ∑ i, x i :=
  Equiv.sum_comp (Shape.reshapeEquiv h) x

/-- Adding up every entry of a reshaped array adds up the array. -/
theorem folded {s t : Shape} {axes : List (Fin t.rank)} (a : s.Idx → EReal) (h : s.ShapeCasts t) (hr : t.Reduces axes S1) (hφ : FKind.Formats .f32)
    (hacc : (0#32 : BitVec FTy.f32.bits) = FKind.add.neutral .f32 hφ) (hc : S1.ShapeCasts S1x1x1) (hp : ∀ a, (![0, 0, 0] : Fin 3 → ℕ) a < S1x1x1.size a) :
    extractAt ![0, 0, 0] (shapeCast S1x1x1 (multiReduction (F := Ideal) .add axes S1 (shapeCast t a h) (0#32) hr hφ hacc) hc) hp = ∑ j, a j :=
  (Ideal.multiReduction_add_total _ _ hr (fun k => by fin_cases k; rfl) hφ hacc _).trans (reshape_sum a h)

/-- The last kernel adds up the two partial results. -/
theorem finish_apply (a : S32x16.Idx → EReal) (b : S8x128.Idx → EReal) (i : S1x1.Idx) :
    k2_pay1 (F := Ideal) a b i = ∑ j, a j + ∑ j, b j := by
  unfold k2_pay1
  simp only [shapeCast_self]
  exact congrArg₂ (fun p q : EReal => p + q)
    (folded a shapeCasts_S32x16_S1x32x16 reduces_S1x32x16_S1 (.inl rfl) rfl shapeCasts_S1_S1x1x1 inpos_S1x1x1_p0_0_0)
    (folded b shapeCasts_S8x128_S1x8x128 reduces_S1x8x128_S1 (.inl rfl) rfl shapeCasts_S1_S1x1x1 inpos_S1x1x1_p0_0_0)

variable (m : (ℓ : Loc nD τ sig) → Buf (Elt Ideal) ℓ) (d : Dev nD) {c : EReal}

abbrev X : S262144x128.Idx → EReal := m (d, dr main_arg0)
abbrev flat : S33554432.Idx → EReal := shapeCast S33554432 (X m d) shapeCasts_S262144x128_S33554432

theorem C1_flat : C1 m d (dr main_v0) = flat m d := StableHlo.reshape_result ..
theorem C1_weights : C1 m d (dr main_arg1) = m (d, dr main_arg1) := StableHlo.reshape_result_ne _ _ _ _ _ _ _ (by decide)

/-- The SparseCores' result, in the last kernel's operand. -/
theorem C4_sc : C4 m d (dr main_v1) = scOut (flat m d) (m (d, dr main_arg1)) := by
  refine (Function.update_of_ne (by decide) _ _).trans ((StableHlo.reshape_result_ne _ _ _ _ _ _ _ (by decide)).trans ?_)
  refine (Function.update_self _ _ _).trans ?_
  rw [C1_flat, C1_weights]

theorem C4_tc : C4 m d (dr main_v3) = total (vals (C3 m)) d := Function.update_self _ _ _

theorem C2_kept (b : Ref sig .tc) (h : b ≠ main_v0 ∧ b ≠ main_v1) : C2 m d (dr b) = m (d, dr b) :=
  (Function.update_of_ne (dr_ne h.2) _ _).trans (StableHlo.reshape_result_ne _ _ _ _ _ _ _ h.1)

theorem C3_array : C3 m d (dr main_arg0) = X m d :=
  (StableHlo.reshape_result_ne _ _ _ _ _ _ _ (by decide)).trans (C2_kept m d _ (by decide))

theorem C3_weights (hw : ∀ i : S128.Idx, m (d, dr main_arg1) i = c) (i : S1x128.Idx) : C3 m d (dr main_v2) i = c := by
  refine (congrFun (StableHlo.reshape_result main_arg1 main_v2 _ _ _ _ (C2 m d) : C3 m d (dr main_v2) = _) i).trans ?_
  show C2 m d (dr main_arg1) _ = c
  rw [C2_kept m d main_arg1 (by decide)]
  exact hw _

/-- The words of a vector, by number, are its entries. -/
theorem words (n : ℕ) [NeZero n] (y : (⟨1, ![n]⟩ : Shape).Idx → EReal) : ∑ e ∈ range n, y (at1 n e) = ∑ i, y i :=
  ((sum_congr rfl fun i _ => congrArg y (eq_at1 n i)).trans (Fin.sum_idx1_range ![n] fun k => y (at1 n k))).symm

theorem C5_sum (k : S1x1.Idx) :
    C5 m d (dr main_v4) k = (∑ j, scOut (flat m d) (m (d, dr main_arg1)) j + ∑ j, total (vals (C3 m)) d j : EReal) := by
  refine (congrFun (Function.update_self _ _ _ : C5 m d (dr main_v4) = finished (vals (C4 m)) d) k).trans ?_
  refine (finish_apply _ _ _).trans ?_
  rw [← C4_sc, ← C4_tc]

/-- The kernel's result. -/
theorem kernel_sum (hw : ∀ i : S128.Idx, m (d, dr main_arg1) i = c) (h0 : 0 ≤ c) (ht : c ≠ ⊤) (i : S_.Idx) :
    C6 m d (dr main_v5) i = c * ∑ j : S262144x128.Idx, X m d j := by
  refine (congrFun (StableHlo.reshape_result main_v4 main_v5 _ _ _ _ (C5 m d) : C6 m d (dr main_v5) = _) i).trans ?_
  refine (C5_sum m d (Shape.reshapeEquiv shapeCasts_S1x1_S_ i)).trans ?_
  rw [scOut_sum _ _ hw h0 ht, total_sum (vals (C3 m)) d (X m d) shapeCasts_S262144x128_S33554432 (C3_array m d) (C3_weights m d hw) h0 ht,
    ← EReal.left_distrib_of_nonneg_of_ne_top h0 ht, ← sum_range_add]
  exact congrArg (c * ·) ((words 33554432 (flat m d)).trans (reshape_sum (X m d) shapeCasts_S262144x128_S33554432))

/-- Kernel and reference end with equal results. -/
theorem algebraic : Cert.algebraic_KernelIdeal_ReferenceIdeal_pre_uniform_weights := by
  intro m g m' g' hpre hagree
  refine ⟨fun c => C6 m c (dr main_v5), (θ_run Cert.KernelIdeal.defs _ _).mono (fun _ h => h.1) (Frames.run (F := Ideal) m g), ?_⟩
  refine (θ_run Cert.ReferenceIdeal.defs _ _).mono (fun r h c => ⟨(h c).1.trans ?_, (h c).2⟩) (Cert.ReferenceIdeal.Value.run (F := Ideal) m' g')
  obtain ⟨w, hw, h0, ht⟩ := Ordered.uniform _ _ (hpre c)
  rw [(hagree c).1, (hagree c).2, Cert.ReferenceIdeal.Read.val_main_v5_eq]
  funext i
  exact (Ordered.reference_sum _ _ hw h0 ht i).trans (kernel_sum m c hw h0 ht i).symm

end Cert.Proof.Result

end
-- ==== Proof.lean ====
/-
  The claims about the kernel, put together from the modules that prove them.
-/
module

public import proofs.«01_k».proof.Defs
public import proofs.«01_k».proof.Proof.Frames
public import proofs.«01_k».proof.Proof.Result

@[expose] public section

noncomputable section

namespace Cert.Proof

theorem claim : Cert.Claim := ⟨Cert.Kernel.Gen.facts, Cert.KernelIdeal.Gen.facts, Cert.ReferenceIdeal.Gen.facts, Cert.Pre_uniform_weights.Gen.facts,
  Frames.frame_kernel, Frames.frame_ideal, Frames.frame_ideal_pre, Frames.frame_reference, Frames.frame_reference_pre, trivial, Result.algebraic⟩

end Cert.Proof

end
